-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1x2048x1024 : Shape := ⟨3, ![1, 2048, 1024]⟩
abbrev S1x2048x3 : Shape := ⟨3, ![1, 2048, 3]⟩
abbrev S1024x1024 : Shape := ⟨2, ![1024, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1x2048x3 : S_.BroadcastsInDim S1x2048x3 (![] : Fin 0 → Fin S1x2048x3.rank)
  reducesTo_S1x2048x3_S_d0_1_2 : S1x2048x3.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S1x2048x1024 .f32) (main_arg1 : FVec F S1x2048x3 .f32) (main_arg2 : FVec F S1024x1024 .f32) (main_arg3 : FVec F S1024x1024 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1x2048x3 .f32 := Host.absf main_arg1
  let main_cst_0 : FVec F S_ .f32 := constant S_ .f32 0x7F800000#32
  let main_v5 : FVec F S1x2048x3 .f32 := broadcastInDim S1x2048x3 ![] bcast_S_S1x2048x3 main_cst_0
  let main_v6 : IVec S1x2048x3 1 := cmpf .olt main_v4 main_v5
  let main_c_1 : IVec S_ 1 := constantI S_ 1 1#1
  let main_v7 : IVec S_ 1 := (fun x v => Host.reduce IntOp.andi x v reducesTo_S1x2048x3_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S1x2048x1024 : Shape := ⟨3, ![1, 2048, 1024]⟩
abbrev S1x2048x3 : Shape := ⟨3, ![1, 2048, 3]⟩
abbrev S1024x1024 : Shape := ⟨2, ![1024, 1024]⟩
abbrev S2048x1024 : Shape := ⟨2, ![2048, 1024]⟩
abbrev S2048x3 : Shape := ⟨2, ![2048, 3]⟩
abbrev S3x2048 : Shape := ⟨2, ![3, 2048]⟩
abbrev S1024x3072 : Shape := ⟨2, ![1024, 3072]⟩
abbrev S2048x64 : Shape := ⟨2, ![2048, 64]⟩
abbrev S2048x2048 : Shape := ⟨2, ![2048, 2048]⟩
abbrev S1x2048x64 : Shape := ⟨3, ![1, 2048, 64]⟩
abbrev S256x1024 : Shape := ⟨2, ![256, 1024]⟩
abbrev S256x3 : Shape := ⟨2, ![256, 3]⟩
abbrev S256x64 : Shape := ⟨2, ![256, 64]⟩
abbrev S256x2048 : Shape := ⟨2, ![256, 2048]⟩
abbrev S256x3072 : Shape := ⟨2, ![256, 3072]⟩
abbrev S256x1 : Shape := ⟨2, ![256, 1]⟩
abbrev S1x2048 : Shape := ⟨2, ![1, 2048]⟩
abbrev S256 : Shape := ⟨1, ![256]⟩
abbrev S1x256 : Shape := ⟨2, ![1, 256]⟩
abbrev S1 : Shape := ⟨1, ![1]⟩
abbrev S1x1 : Shape := ⟨2, ![1, 1]⟩

abbrev nBuf : Space → Nat
  | .hbm => 22
  | .vmem => 24
  | .smem => 0
  | _ => 0

abbrev bufTy : (tb : Table) → Fin (tcTables nBuf tb) → BufTy
  | .hbm, ⟨0, _⟩ => ⟨S1x2048x1024, .f32⟩
  | .hbm, ⟨1, _⟩ => ⟨S1x2048x3, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S2048x1024, .f32⟩
  | .hbm, ⟨6, _⟩ => ⟨S2048x1024, .bf16⟩
  | .hbm, ⟨7, _⟩ => ⟨S2048x3, .f32⟩
  | .hbm, ⟨8, _⟩ => ⟨S3x2048, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x3072, .f32⟩
  | .hbm, ⟨13, _⟩ => ⟨S1024x3072, .bf16⟩
  | .hbm, ⟨14, _⟩ => ⟨S2048x1024, .bf16⟩
  | .hbm, ⟨15, _⟩ => ⟨S2048x1024, .bf16⟩
  | .hbm, ⟨16, _⟩ => ⟨S2048x1024, .bf16⟩
  | .hbm, ⟨17, _⟩ => ⟨S2048x64, .f32⟩
  | .hbm, ⟨18, _⟩ => ⟨S2048x2048, .bf16⟩
  | .hbm, ⟨19, _⟩ => ⟨S2048x1024, .f32⟩
  | .hbm, ⟨20, _⟩ => ⟨S1x2048x1024, .f32⟩
  | .hbm, ⟨21, _⟩ => ⟨S1x2048x64, .f32⟩
  | .local _ .vmem, ⟨0, _⟩ => ⟨S256x1024, .bf16⟩
  | .local _ .vmem, ⟨1, _⟩ => ⟨S256x1024, .bf16⟩
  | .local _ .vmem, ⟨2, _⟩ => ⟨S1024x3072, .bf16⟩
  | .local _ .vmem, ⟨3, _⟩ => ⟨S256x3, .f32⟩
  | .local _ .vmem, ⟨4, _⟩ => ⟨S256x3, .f32⟩
  | .local _ .vmem, ⟨5, _⟩ => ⟨S3x2048, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x64, .f32⟩
  | .local _ .vmem, ⟨13, _⟩ => ⟨S256x64, .f32⟩
  | .local _ .vmem, ⟨14, _⟩ => ⟨S256x2048, .bf16⟩
  | .local _ .vmem, ⟨15, _⟩ => ⟨S256x2048, .bf16⟩
  | .local _ .vmem, ⟨16, _⟩ => ⟨S256x1024, .bf16⟩
  | .local _ .vmem, ⟨17, _⟩ => ⟨S256x1024, .bf16⟩
  | .local _ .vmem, ⟨18, _⟩ => ⟨S2048x1024, .bf16⟩
  | .local _ .vmem, ⟨19, _⟩ => ⟨S2048x1024, .bf16⟩
  | .local _ .vmem, ⟨20, _⟩ => ⟨S256x2048, .bf16⟩
  | .local _ .vmem, ⟨21, _⟩ => ⟨S256x2048, .bf16⟩
  | .local _ .vmem, ⟨22, _⟩ => ⟨S256x1024, .f32⟩
  | .local _ .vmem, ⟨23, _⟩ => ⟨S256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9_0 : Ref sig .tc := ⟨.hbm, 14, rfl⟩
abbrev main_call0_v9_1 : Ref sig .tc := ⟨.hbm, 15, rfl⟩
abbrev main_call0_v9_2 : Ref sig .tc := ⟨.hbm, 16, rfl⟩
abbrev main_call0_v9_3 : Ref sig .tc := ⟨.hbm, 17, rfl⟩
abbrev main_call0_v9_4 : Ref sig .tc := ⟨.hbm, 18, rfl⟩
abbrev main_call0_v10 : Ref sig .tc := ⟨.hbm, 19, rfl⟩
abbrev main_v0_0 : Ref sig .tc := ⟨.hbm, 20, rfl⟩
abbrev main_v0_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem3_1 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1x2048x3 : Shape := ⟨3, ![1, 2048, 3]⟩
abbrev S1024x1024 : Shape := ⟨2, ![1024, 1024]⟩
abbrev S1x2048x1x3 : Shape := ⟨4, ![1, 2048, 1, 3]⟩
abbrev S1x1x2048x3 : Shape := ⟨4, ![1, 1, 2048, 3]⟩
abbrev S1x2048x2048x3 : Shape := ⟨4, ![1, 2048, 2048, 3]⟩
abbrev S_ : Shape := ⟨0, ![]⟩
abbrev S1x2048x2048 : Shape := ⟨3, ![1, 2048, 2048]⟩
abbrev S1x2048x17 : Shape := ⟨3, ![1, 2048, 17]⟩
abbrev S1x2048x16 : Shape := ⟨3, ![1, 2048, 16]⟩
abbrev S1 : Shape := ⟨1, ![1]⟩
abbrev S1x1x1 : Shape := ⟨3, ![1, 1, 1]⟩
abbrev S2048 : Shape := ⟨1, ![2048]⟩
abbrev S1x2048x1 : Shape := ⟨3, ![1, 2048, 1]⟩
abbrev S1x2048x16x1 : Shape := ⟨4, ![1, 2048, 16, 1]⟩
abbrev S1x2048x16x3 : Shape := ⟨4, ![1, 2048, 16, 3]⟩
abbrev S1x2048x16x64 : Shape := ⟨4, ![1, 2048, 16, 64]⟩
abbrev S1x16x2048x64 : Shape := ⟨4, ![1, 16, 2048, 64]⟩
abbrev S1x16x2048x2048 : Shape := ⟨4, ![1, 16, 2048, 2048]⟩
abbrev S1x1x2048x2048 : Shape := ⟨4, ![1, 1, 2048, 2048]⟩
abbrev S1x16x2048 : Shape := ⟨3, ![1, 16, 2048]⟩
abbrev S1x16x2048x1 : Shape := ⟨4, ![1, 16, 2048, 1]⟩
abbrev S1x2048x64 : Shape := ⟨3, ![1, 2048, 64]⟩

abbrev nBuf : Space → Nat
  | .hbm => 100
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x3, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1x2048x1x3, .f32⟩
  | .hbm, ⟨6, _⟩ => ⟨S1x1x2048x3, .f32⟩
  | .hbm, ⟨7, _⟩ => ⟨S1x2048x2048x3, .f32⟩
  | .hbm, ⟨8, _⟩ => ⟨S1x2048x2048x3, .f32⟩
  | .hbm, ⟨9, _⟩ => ⟨S1x2048x2048x3, .f32⟩
  | .hbm, ⟨10, _⟩ => ⟨S1x2048x2048x3, .f32⟩
  | .hbm, ⟨11, _⟩ => ⟨S_, .f32⟩
  | .hbm, ⟨12, _⟩ => ⟨S1x2048x2048, .f32⟩
  | .hbm, ⟨13, _⟩ => ⟨S1x2048x2048, .f32⟩
  | .hbm, ⟨14, _⟩ => ⟨S1x2048x2048, .f32⟩
  | .hbm, ⟨15, _⟩ => ⟨S1x2048x17, .f32⟩
  | .hbm, ⟨16, _⟩ => ⟨S1x2048x17, .i32⟩
  | .hbm, ⟨17, _⟩ => ⟨S1x2048x16, .i32⟩
  | .hbm, ⟨18, _⟩ => ⟨S1, .i32⟩
  | .hbm, ⟨19, _⟩ => ⟨S1x1x1, .i32⟩
  | .hbm, ⟨20, _⟩ => ⟨S2048, .i32⟩
  | .hbm, ⟨21, _⟩ => ⟨S1x2048x1, .i32⟩
  | .hbm, ⟨22, _⟩ => ⟨S_, .i1⟩
  | .hbm, ⟨23, _⟩ => ⟨S1x2048x2048, .i1⟩
  | .hbm, ⟨24, _⟩ => ⟨S_, .i32⟩
  | .hbm, ⟨25, _⟩ => ⟨S1x1x1, .i32⟩
  | .hbm, ⟨26, _⟩ => ⟨S1x1x1, .i1⟩
  | .hbm, ⟨27, _⟩ => ⟨S_, .i32⟩
  | .hbm, ⟨28, _⟩ => ⟨S1x1x1, .i32⟩
  | .hbm, ⟨29, _⟩ => ⟨S1x1x1, .i32⟩
  | .hbm, ⟨30, _⟩ => ⟨S1x1x1, .i32⟩
  | .hbm, ⟨31, _⟩ => ⟨S_, .i32⟩
  | .hbm, ⟨32, _⟩ => ⟨S1x2048x1, .i32⟩
  | .hbm, ⟨33, _⟩ => ⟨S1x2048x1, .i1⟩
  | .hbm, ⟨34, _⟩ => ⟨S_, .i32⟩
  | .hbm, ⟨35, _⟩ => ⟨S1x2048x1, .i32⟩
  | .hbm, ⟨36, _⟩ => ⟨S1x2048x1, .i32⟩
  | .hbm, ⟨37, _⟩ => ⟨S1x2048x1, .i32⟩
  | .hbm, ⟨38, _⟩ => ⟨S_, .i32⟩
  | .hbm, ⟨39, _⟩ => ⟨S1x2048x16, .i32⟩
  | .hbm, ⟨40, _⟩ => ⟨S1x2048x16, .i1⟩
  | .hbm, ⟨41, _⟩ => ⟨S_, .i32⟩
  | .hbm, ⟨42, _⟩ => ⟨S1x2048x16, .i32⟩
  | .hbm, ⟨43, _⟩ => ⟨S1x2048x16, .i32⟩
  | .hbm, ⟨44, _⟩ => ⟨S1x2048x16, .i32⟩
  | .hbm, ⟨45, _⟩ => ⟨S1x2048x16, .i32⟩
  | .hbm, ⟨46, _⟩ => ⟨S1x2048x16, .i32⟩
  | .hbm, ⟨47, _⟩ => ⟨S1x2048x16x1, .i32⟩
  | .hbm, ⟨48, _⟩ => ⟨S1x2048x16x1, .i32⟩
  | .hbm, ⟨49, _⟩ => ⟨S1x2048x16x1, .i32⟩
  | .hbm, ⟨50, _⟩ => ⟨S1x2048x16x3, .i32⟩
  | .hbm, ⟨51, _⟩ => ⟨S_, .i1⟩
  | .hbm, ⟨52, _⟩ => ⟨S1x2048x16, .i1⟩
  | .hbm, ⟨53, _⟩ => ⟨S1x2048x2048, .i1⟩
  | .hbm, ⟨54, _⟩ => ⟨S1024x1024, .f32⟩
  | .hbm, ⟨55, _⟩ => ⟨S1x2048x1024, .f32⟩
  | .hbm, ⟨56, _⟩ => ⟨S1x2048x16x64, .f32⟩
  | .hbm, ⟨57, _⟩ => ⟨S1x16x2048x64, .f32⟩
  | .hbm, ⟨58, _⟩ => ⟨S1024x1024, .f32⟩
  | .hbm, ⟨59, _⟩ => ⟨S1x2048x1024, .f32⟩
  | .hbm, ⟨60, _⟩ => ⟨S1x2048x16x64, .f32⟩
  | .hbm, ⟨61, _⟩ => ⟨S1x16x2048x64, .f32⟩
  | .hbm, ⟨62, _⟩ => ⟨S1024x1024, .f32⟩
  | .hbm, ⟨63, _⟩ => ⟨S1x2048x1024, .f32⟩
  | .hbm, ⟨64, _⟩ => ⟨S1x2048x16x64, .f32⟩
  | .hbm, ⟨65, _⟩ => ⟨S1x16x2048x64, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S1x16x2048x2048, .f32⟩
  | .hbm, ⟨71, _⟩ => ⟨S1x16x2048x2048, .f32⟩
  | .hbm, ⟨72, _⟩ => ⟨S1x16x2048x2048, .f32⟩
  | .hbm, ⟨73, _⟩ => ⟨S1x1x2048x2048, .i1⟩
  | .hbm, ⟨74, _⟩ => ⟨S_, .f32⟩
  | .hbm, ⟨75, _⟩ => ⟨S1x16x2048x2048, .i1⟩
  | .hbm, ⟨76, _⟩ => ⟨S1x16x2048x2048, .f32⟩
  | .hbm, ⟨77, _⟩ => ⟨S1x16x2048x2048, .f32⟩
  | .hbm, ⟨78, _⟩ => ⟨S_, .f32⟩
  | .hbm, ⟨79, _⟩ => ⟨S1x16x2048, .f32⟩
  | .hbm, ⟨80, _⟩ => ⟨S_, .f32⟩
  | .hbm, ⟨81, _⟩ => ⟨S1x16x2048, .f32⟩
  | .hbm, ⟨82, _⟩ => ⟨S1x16x2048, .f32⟩
  | .hbm, ⟨83, _⟩ => ⟨S1x16x2048x1, .f32⟩
  | .hbm, ⟨84, _⟩ => ⟨S1x16x2048x2048, .f32⟩
  | .hbm, ⟨85, _⟩ => ⟨S1x16x2048x2048, .f32⟩
  | .hbm, ⟨86, _⟩ => ⟨S1x16x2048x2048, .f32⟩
  | .hbm, ⟨87, _⟩ => ⟨S_, .f32⟩
  | .hbm, ⟨88, _⟩ => ⟨S1x16x2048, .f32⟩
  | .hbm, ⟨89, _⟩ => ⟨S1x16x2048x1, .f32⟩
  | .hbm, ⟨90, _⟩ => ⟨S1x16x2048x2048, .f32⟩
  | .hbm, ⟨91, _⟩ => ⟨S1x16x2048x2048, .f32⟩
  | .hbm, ⟨92, _⟩ => ⟨S1x16x2048x64, .f32⟩
  | .hbm, ⟨93, _⟩ => ⟨S1x2048x16x64, .f32⟩
  | .hbm, ⟨94, _⟩ => ⟨S1x2048x1024, .f32⟩
  | .hbm, ⟨95, _⟩ => ⟨S_, .f32⟩
  | .hbm, ⟨96, _⟩ => ⟨S1x2048x64, .f32⟩
  | .hbm, ⟨97, _⟩ => ⟨S_, .f32⟩
  | .hbm, ⟨98, _⟩ => ⟨S1x2048x64, .f32⟩
  | .hbm, ⟨99, _⟩ => ⟨S1x2048x64, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_values : Ref sig .tc := ⟨.hbm, 15, rfl⟩
abbrev main_indices : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_c_0 : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_call0_v0 : Ref sig .tc := ⟨.hbm, 75, rfl⟩
abbrev main_call0_v1 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_13 : Ref sig .tc := ⟨.hbm, 95, rfl⟩
abbrev main_v71 : Ref sig .tc := ⟨.hbm, 96, rfl⟩
abbrev main_cst_14 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]
-- ==== Proof.KernelIdealProj.lean ====
/- The first region of the idealized kernel: what its body leaves in each output window, and that it does. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Body

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions
variable (V : (c : Dev nD) → (b : Ref sig .tc) → Buf (Elt F) ((c : Thread nD τ).loc b))
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S256x1024 := Rect.unit (s := S256x1024) ![0, 0] S256x1024.size inb_S256x1024_S256x1024_0_0
abbrev r0_1 : Rect S1024x3072 := Rect.unit (s := S1024x3072) ![0, 0] S1024x3072.size inb_S1024x3072_S1024x3072_0_0
abbrev r0_2 : Rect S256x64 := Rect.unit (s := S256x64) ![0, 0] S256x64.size inb_S256x64_S256x64_0_0
abbrev r0_3 : Rect S256x3 := Rect.unit (s := S256x3) ![0, 0] S256x3.size inb_S256x3_S256x3_0_0
abbrev r0_4 : Rect S3x2048 := Rect.unit (s := S3x2048) ![0, 0] S1x2048.size inb_S3x2048_S1x2048_0_0
abbrev r0_5 : Rect S3x2048 := Rect.unit (s := S3x2048) ![1, 0] S1x2048.size inb_S3x2048_S1x2048_1_0
abbrev r0_6 : Rect S3x2048 := Rect.unit (s := S3x2048) ![2, 0] S1x2048.size inb_S3x2048_S1x2048_2_0
abbrev r0_7 : Rect S256x2048 := Rect.unit (s := S256x2048) ![0, 0] S256x2048.size inb_S256x2048_S256x2048_0_0

/-- The distances of a block of queries to all the points, from the two coordinate windows. -/
def dist (x2 : Vec F S256x3 .f32) (x3 : Vec F S3x2048 .f32) : FVec F S256x2048 .f32 :=
  k0_pay49 (View.ld x2 r0_3) (View.ld x3 r0_4) (View.ld x3 r0_5) (View.ld x3 r0_6)
def fv83 (x2 : Vec F S256x3 .f32) (x3 : Vec F S3x2048 .f32) : IVec S256x2048 1 :=
  k0_pay51 (View.ld x2 r0_3) (View.ld x3 r0_4) (View.ld x3 r0_5) (View.ld x3 r0_6)
def fv85 (x2 : Vec F S256x3 .f32) (x3 : Vec F S3x2048 .f32) : FVec F S256x2048 .f32 :=
  k0_pay52 (View.ld x2 r0_3) (View.ld x3 r0_4) (View.ld x3 r0_5) (View.ld x3 r0_6)
def fv86 (x2 : Vec F S256x3 .f32) (x3 : Vec F S3x2048 .f32) : FVec F S256 .f32 :=
  k0_pay53 (View.ld x2 r0_3) (View.ld x3 r0_4) (View.ld x3 r0_5) (View.ld x3 r0_6)
def fv127 (x2 : Vec F S256x3 .f32) (x3 : Vec F S3x2048 .f32) : FVec F S256x2048 .f32 := k0_pay65 (fv85 x2 x3) (fv86 x2 x3)
def fv131 (x2 : Vec F S256x3 .f32) (x3 : Vec F S3x2048 .f32) : IVec S256x2048 1 := k0_pay66 (fv85 x2 x3) (fv86 x2 x3)
def fv132 (x2 : Vec F S256x3 .f32) (x3 : Vec F S3x2048 .f32) : IVec S256x2048 1 := k0_pay67 (fv83 x2 x3) (fv85 x2 x3) (fv86 x2 x3)
def fv174 (x2 : Vec F S256x3 .f32) (x3 : Vec F S3x2048 .f32) : IVec S256x2048 1 :=
  k0_pay81 (fv127 x2 x3) (fv131 x2 x3) (fv132 x2 x3) (k0_pay68 (F := F))
def fv176 (x2 : Vec F S256x3 .f32) (x3 : Vec F S3x2048 .f32) : FVec F S256x2048 .f32 :=
  k0_pay82 (fv127 x2 x3) (fv131 x2 x3) (k0_pay68 (F := F))
def fv180 (x2 : Vec F S256x3 .f32) (x3 : Vec F S3x2048 .f32) : IVec S256x2048 1 :=
  k0_pay83 (fv127 x2 x3) (fv131 x2 x3) (k0_pay68 (F := F))
/-- The mask the seventeen rounds of equal-to-the-minimum selections give. -/
def fastMask (x2 : Vec F S256x3 .f32) (x3 : Vec F S3x2048 .f32) : Vec F S256x2048 .bf16 :=
  k0_pay85 (dist x2 x3) (fv174 x2 x3) (fv176 x2 x3) (fv180 x2 x3)
/-- The word that says whether some query's count is not seventeen. -/
def slowWord (x2 : Vec F S256x3 .f32) (x3 : Vec F S3x2048 .f32) : BitVec 1 :=
  Scalar.cmpi .ne (Scalar.extui (Scalar.xori (Scalar.cmpf .ogt (k0_pay86 (fv174 x2 x3) (fv176 x2 x3) (fv180 x2 x3)) (Scalar.ofBits (F := F) .f32 0x00000000#32)) 1#1) : BitVec 32) 0#32
def lanes : IVec S256x2048 32 := iota .tc S256x2048 32 [1] iota_S256x2048_d1_w32
def sv262 (d : FVec F S256x2048 .f32) : FVec F S256x2048 .f32 := k0_pay6 d
def sv264 (d : FVec F S256x2048 .f32) : FVec F S256x2048 .f32 := k0_pay7 d
def sv266 (d : FVec F S256x2048 .f32) : FVec F S256x1 .f32 := k0_pay8 d
def sv304 (d : FVec F S256x2048 .f32) : FVec F S256x2048 .f32 := k0_pay14 lanes (sv262 d) (sv264 d) (sv266 d)
def sv306 (d : FVec F S256x2048 .f32) : FVec F S256x2048 .f32 := k0_pay15 lanes (sv264 d) (sv266 d)
def sv310 (d : FVec F S256x2048 .f32) : IVec S256x2048 1 := k0_pay16 lanes (sv264 d) (sv266 d)
def sv346 (d : FVec F S256x2048 .f32) : FVec F S256x2048 .f32 := k0_pay22 lanes (sv304 d) (sv306 d) (sv310 d) 2048#32
def sv348 (d : FVec F S256x2048 .f32) : FVec F S256x2048 .f32 := k0_pay23 lanes (sv306 d) (sv310 d) 2048#32
def sv354 (d : FVec F S256x2048 .f32) : IVec S256x2048 32 := k0_pay24 lanes (sv306 d) (sv310 d) 2048#32
def sv388 (d : FVec F S256x2048 .f32) : FVec F S256x2048 .f32 := k0_pay30 lanes (sv346 d) (sv348 d) (sv354 d)
def sv390 (d : FVec F S256x2048 .f32) : FVec F S256x2048 .f32 := k0_pay31 lanes (sv348 d) (sv354 d)
def sv399 (d : FVec F S256x2048 .f32) : IVec S256x2048 32 := k0_pay32 lanes (sv348 d) (sv354 d)
def sv430 (d : FVec F S256x2048 .f32) : FVec F S256x2048 .f32 := k0_pay38 lanes (sv388 d) (sv390 d) (sv399 d)
def sv432 (d : FVec F S256x2048 .f32) : FVec F S256x2048 .f32 := k0_pay39 lanes (sv390 d) (sv399 d)
def sv442 (d : FVec F S256x2048 .f32) : IVec S256x2048 1 := k0_pay40 lanes (sv390 d) (sv399 d)
/-- The mask seventeen rounds of lowest-index selections give. -/
def slowMask (d : FVec F S256x2048 .f32) : Vec F S256x2048 .bf16 :=
  k0_pay1 lanes (sv430 d) (sv432 d) (sv442 d) (k0_pay41 (F := F))

/-- What the body leaves in the window of the scaled queries. -/
def out0_4 (x0 : Vec F S256x1024 .bf16) (x1 : Vec F S1024x3072 .bf16) : Vec F S256x1024 .bf16 :=
  View.canon [⟨r0_0, k0_pay43 (View.ld x0 r0_0) (View.ld x1 r0_1)⟩]
/-- What the body leaves in the window of the keys. -/
def out0_5 (x0 : Vec F S256x1024 .bf16) (x1 : Vec F S1024x3072 .bf16) : Vec F S256x1024 .bf16 :=
  View.canon [⟨r0_0, k0_pay45 (View.ld x0 r0_0) (View.ld x1 r0_1)⟩]
/-- What the body leaves in the window of the values. -/
def out0_6 (x0 : Vec F S256x1024 .bf16) (x1 : Vec F S1024x3072 .bf16) : Vec F S256x1024 .bf16 :=
  View.canon [⟨r0_0, k0_pay46 (View.ld x0 r0_0) (View.ld x1 r0_1)⟩]
/-- What the body leaves in the window of the mean key over the heads. -/
def out0_7 (x0 : Vec F S256x1024 .bf16) (x1 : Vec F S1024x3072 .bf16) : Vec F S256x64 .f32 :=
  View.canon [⟨r0_2, k0_pay48 (k0_pay44 (View.ld x0 r0_0) (View.ld x1 r0_1)) (k0_pay47 (View.ld x0 r0_0) (View.ld x1 r0_1))⟩]
/-- What the body leaves in the mask window: the fast mask, overwritten by the slow one where the counts ask for it. -/
def out0_8 (x2 : Vec F S256x3 .f32) (x3 : Vec F S3x2048 .f32) : Vec F S256x2048 .bf16 :=
  if slowWord x2 x3 = 1#1 then View.canon [⟨r0_7, slowMask (dist x2 x3)⟩, ⟨r0_7, fastMask x2 x3⟩]
  else View.canon [⟨r0_7, fastMask x2 x3⟩]

theorem cover0_4 (p0 : Vec F S256x1024 .bf16) (y : S256x1024.Idx) :
    ∃ pc ∈ ([⟨r0_0, p0⟩] : List (View.Piece (Elt F) S256x1024 .bf16)), y ∈ pc.1.set :=
  View.cover_of_tiled [⟨r0_0, p0⟩] S256x1024.size (by rfl) y
theorem cover0_7 (p0 : Vec F S256x64 .f32) (y : S256x64.Idx) :
    ∃ pc ∈ ([⟨r0_2, p0⟩] : List (View.Piece (Elt F) S256x64 .f32)), y ∈ pc.1.set :=
  View.cover_of_tiled [⟨r0_2, p0⟩] S256x64.size (by rfl) y
theorem cover0_8 (p0 : Vec F S256x2048 .bf16) (y : S256x2048.Idx) :
    ∃ pc ∈ ([⟨r0_7, p0⟩] : List (View.Piece (Elt F) S256x2048 .bf16)), y ∈ pc.1.set :=
  View.cover_of_tiled [⟨r0_7, p0⟩] S256x2048.size (by rfl) y
theorem cover0_8' (p0 p1 : Vec F S256x2048 .bf16) (y : S256x2048.Idx) :
    ∃ pc ∈ ([⟨r0_7, p0⟩, ⟨r0_7, p1⟩] : List (View.Piece (Elt F) S256x2048 .bf16)), y ∈ pc.1.set :=
  let ⟨pc, h, hy⟩ := cover0_8 p0 y
  ⟨pc, List.mem_cons.2 (.inl (List.mem_singleton.1 h)), hy⟩

set_option maxHeartbeats 1000000 in
theorem sound_kernel0 (c : Dev nD) (E : Set ℕ) (i : grid0.Coords) (arg1 : Memref sig .tc .vmem S256x1024 .bf16) (harg1 : arg1.IsWhole) (arg2 : Memref sig .tc .vmem S1024x3072 .bf16) (harg2 : arg2.IsWhole) (arg3 : Memref sig .tc .vmem S256x3 .f32) (harg3 : arg3.IsWhole) (arg4 : Memref sig .tc .vmem S3x2048 .f32) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x64 .f32) (harg8 : arg8.IsWhole) (arg9 : Memref sig .tc .vmem S256x2048 .bf16) (harg9 : arg9.IsWhole)
    (x0 : Vec F S256x1024 .bf16) (x1 : Vec F S1024x3072 .bf16) (x2 : Vec F S256x3 .f32) (x3 : Vec F S3x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1) ∗ owns (c : Thread nD τ) arg6 fullShare (out0_5 x0 x1) ∗ owns (c : Thread nD τ) arg7 fullShare (out0_6 x0 x1) ∗ owns (c : Thread nD τ) arg8 fullShare (out0_7 x0 x1) ∗ owns (c : Thread nD τ) arg9 fullShare (out0_8 x2 x3)) -∗ K ⟨⟩))
      ⊢ wp frame (wpE (defs₀ (F := F)) Variants.none c none) E (cc0__proj_knn_body i arg1 harg1 arg2 harg2 arg3 harg3 arg4 harg4 arg5 harg5 arg6 harg6 arg7 harg7 arg8 harg8 arg9 harg9) K := by
  simp only [cc0__proj_knn_body_eq_skeleton]; unfold cc0__proj_knn_body_skel
  simp only [k0_part6_eq_skeleton, k0_part7_eq_skeleton, k0_part8_eq_skeleton, k0_part9_eq_skeleton, k0_part10_eq_skeleton, k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
  subst hf0 hf1 hf2 hf3
  by_cases hc : slowWord (View.read (Elt F) arg3.view f2) (View.read (Elt F) arg4.view f3) = 1#1
  · sl_exec (disch := sl_exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      exact View.read_writes_eq_canon _ _ _ (cover0_4 _)
    isplitl [H5]
    · iexists _; isplitr
      swap; · iexact H5
      ipureintro
      exact View.read_writes_eq_canon _ _ _ (cover0_4 _)
    isplitl [H6]
    · iexists _; isplitr
      swap; · iexact H6
      ipureintro
      exact View.read_writes_eq_canon _ _ _ (cover0_4 _)
    isplitl [H7]
    · iexists _; isplitr
      swap; · iexact H7
      ipureintro
      exact View.read_writes_eq_canon _ _ _ (cover0_7 _)
    iexists _; isplitr
    swap; · iexact H8
    ipureintro
    refine (View.read_writes_eq_canon _ _ _ (cover0_8' _ _)).trans ?_
    unfold out0_8; rw [if_pos hc]; rfl
  · sl_exec (disch := sl_exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      exact View.read_writes_eq_canon _ _ _ (cover0_4 _)
    isplitl [H5]
    · iexists _; isplitr
      swap; · iexact H5
      ipureintro
      exact View.read_writes_eq_canon _ _ _ (cover0_4 _)
    isplitl [H6]
    · iexists _; isplitr
      swap; · iexact H6
      ipureintro
      exact View.read_writes_eq_canon _ _ _ (cover0_4 _)
    isplitl [H7]
    · iexists _; isplitr
      swap; · iexact H7
      ipureintro
      exact View.read_writes_eq_canon _ _ _ (cover0_7 _)
    iexists _; isplitr
    swap; · iexact H8
    ipureintro
    refine (View.read_writes_eq_canon _ _ _ (cover0_8 _)).trans ?_
    unfold out0_8; rw [if_neg hc]; rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t)
    | ⟨6, _⟩ => out0_6 (iblk0 V c 0 t) (iblk0 V c 1 t)
    | ⟨7, _⟩ => out0_7 (iblk0 V c 0 t) (iblk0 V c 1 t)
    | ⟨8, _⟩ => out0_8 (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) := by dsimp only [dat0]
theorem after0_6 (c : Dev nD) (t : Fin cfg0.N) : (dat0 V c).after 6 t = out0_6 (iblk0 V c 0 t) (iblk0 V c 1 t) := by dsimp only [dat0]
theorem after0_7 (c : Dev nD) (t : Fin cfg0.N) : (dat0 V c).after 7 t = out0_7 (iblk0 V c 0 t) (iblk0 V c 1 t) := by dsimp only [dat0]
theorem after0_8 (c : Dev nD) (t : Fin cfg0.N) : (dat0 V c).after 8 t = out0_8 (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ (grid0.coords t) _ _ _ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Body

end
-- ==== Proof.KernelIdealAttn.lean ====
/- The second region of the idealized kernel: what its body leaves in its output window, and that it does. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Body

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions
variable (V : (c : Dev nD) → (b : Ref sig .tc) → Buf (Elt F) ((c : Thread nD τ).loc b))
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S256x2048 := Rect.unit (s := S256x2048) ![0, 0] S256x2048.size inb_S256x2048_S256x2048_0_0
abbrev r1_1 : Rect S256x1024 := Rect.unit (s := S256x1024) ![0, 0] S256x64.size inb_S256x1024_S256x64_0_0
abbrev r1_2 : Rect S2048x1024 := Rect.unit (s := S2048x1024) ![0, 0] S2048x64.size inb_S2048x1024_S2048x64_0_0
abbrev r1_3 : Rect S256x1024 := Rect.unit (s := S256x1024) ![0, 64] S256x64.size inb_S256x1024_S256x64_0_64
abbrev r1_4 : Rect S2048x1024 := Rect.unit (s := S2048x1024) ![0, 64] S2048x64.size inb_S2048x1024_S2048x64_0_64
abbrev r1_5 : Rect S256x1024 := Rect.unit (s := S256x1024) ![0, 128] S256x64.size inb_S256x1024_S256x64_0_128
abbrev r1_6 : Rect S2048x1024 := Rect.unit (s := S2048x1024) ![0, 128] S2048x64.size inb_S2048x1024_S2048x64_0_128
abbrev r1_7 : Rect S256x1024 := Rect.unit (s := S256x1024) ![0, 192] S256x64.size inb_S256x1024_S256x64_0_192
abbrev r1_8 : Rect S2048x1024 := Rect.unit (s := S2048x1024) ![0, 192] S2048x64.size inb_S2048x1024_S2048x64_0_192
abbrev r1_9 : Rect S256x1024 := Rect.unit (s := S256x1024) ![0, 256] S256x64.size inb_S256x1024_S256x64_0_256
abbrev r1_10 : Rect S2048x1024 := Rect.unit (s := S2048x1024) ![0, 256] S2048x64.size inb_S2048x1024_S2048x64_0_256
abbrev r1_11 : Rect S256x1024 := Rect.unit (s := S256x1024) ![0, 320] S256x64.size inb_S256x1024_S256x64_0_320
abbrev r1_12 : Rect S2048x1024 := Rect.unit (s := S2048x1024) ![0, 320] S2048x64.size inb_S2048x1024_S2048x64_0_320
abbrev r1_13 : Rect S256x1024 := Rect.unit (s := S256x1024) ![0, 384] S256x64.size inb_S256x1024_S256x64_0_384
abbrev r1_14 : Rect S2048x1024 := Rect.unit (s := S2048x1024) ![0, 384] S2048x64.size inb_S2048x1024_S2048x64_0_384
abbrev r1_15 : Rect S256x1024 := Rect.unit (s := S256x1024) ![0, 448] S256x64.size inb_S256x1024_S256x64_0_448
abbrev r1_16 : Rect S2048x1024 := Rect.unit (s := S2048x1024) ![0, 448] S2048x64.size inb_S2048x1024_S2048x64_0_448
abbrev r1_17 : Rect S256x1024 := Rect.unit (s := S256x1024) ![0, 512] S256x64.size inb_S256x1024_S256x64_0_512
abbrev r1_18 : Rect S2048x1024 := Rect.unit (s := S2048x1024) ![0, 512] S2048x64.size inb_S2048x1024_S2048x64_0_512
abbrev r1_19 : Rect S256x1024 := Rect.unit (s := S256x1024) ![0, 576] S256x64.size inb_S256x1024_S256x64_0_576
abbrev r1_20 : Rect S2048x1024 := Rect.unit (s := S2048x1024) ![0, 576] S2048x64.size inb_S2048x1024_S2048x64_0_576
abbrev r1_21 : Rect S256x1024 := Rect.unit (s := S256x1024) ![0, 640] S256x64.size inb_S256x1024_S256x64_0_640
abbrev r1_22 : Rect S2048x1024 := Rect.unit (s := S2048x1024) ![0, 640] S2048x64.size inb_S2048x1024_S2048x64_0_640
abbrev r1_23 : Rect S256x1024 := Rect.unit (s := S256x1024) ![0, 704] S256x64.size inb_S256x1024_S256x64_0_704
abbrev r1_24 : Rect S2048x1024 := Rect.unit (s := S2048x1024) ![0, 704] S2048x64.size inb_S2048x1024_S2048x64_0_704
abbrev r1_25 : Rect S256x1024 := Rect.unit (s := S256x1024) ![0, 768] S256x64.size inb_S256x1024_S256x64_0_768
abbrev r1_26 : Rect S2048x1024 := Rect.unit (s := S2048x1024) ![0, 768] S2048x64.size inb_S2048x1024_S2048x64_0_768
abbrev r1_27 : Rect S256x1024 := Rect.unit (s := S256x1024) ![0, 832] S256x64.size inb_S256x1024_S256x64_0_832
abbrev r1_28 : Rect S2048x1024 := Rect.unit (s := S2048x1024) ![0, 832] S2048x64.size inb_S2048x1024_S2048x64_0_832
abbrev r1_29 : Rect S256x1024 := Rect.unit (s := S256x1024) ![0, 896] S256x64.size inb_S256x1024_S256x64_0_896
abbrev r1_30 : Rect S2048x1024 := Rect.unit (s := S2048x1024) ![0, 896] S2048x64.size inb_S2048x1024_S2048x64_0_896
abbrev r1_31 : Rect S256x1024 := Rect.unit (s := S256x1024) ![0, 960] S256x64.size inb_S256x1024_S256x64_0_960
abbrev r1_32 : Rect S2048x1024 := Rect.unit (s := S2048x1024) ![0, 960] S2048x64.size inb_S2048x1024_S2048x64_0_960

def k1_pay29 (x0 : Vec F S256x1024 .bf16) (x1 : Vec F S2048x1024 .bf16) (x2 : Vec F S2048x1024 .bf16) (x3 : Vec F S256x2048 .bf16) : FVec F S256x2048 .f32 :=
  k1_pay3 (View.ld x3 r1_0)

def out1_4 (x0 : Vec F S256x1024 .bf16) (x1 : Vec F S2048x1024 .bf16) (x2 : Vec F S2048x1024 .bf16) (x3 : Vec F S256x2048 .bf16) : Vec F S256x1024 .f32 :=
  View.canon [⟨r1_31, k1_pay2 (k1_pay29 x0 x1 x2 x3) (View.ld x0 r1_31) (View.ld x1 r1_32) (View.ld x2 r1_32)⟩,
    ⟨r1_29, k1_pay1 (k1_pay27 (k1_pay29 x0 x1 x2 x3) (View.ld x0 r1_29) (View.ld x1 r1_30)) (k1_pay28 (k1_pay29 x0 x1 x2 x3) (View.ld x0 r1_29) (View.ld x1 r1_30) (View.ld x2 r1_30))⟩,
    ⟨r1_27, k1_pay25 (k1_pay29 x0 x1 x2 x3) (View.ld x0 r1_27) (View.ld x1 r1_28) (View.ld x2 r1_28)⟩,
    ⟨r1_25, k1_pay24 (k1_pay21 (View.ld x2 r1_26)) (k1_pay22 (k1_pay29 x0 x1 x2 x3) (View.ld x0 r1_25) (View.ld x1 r1_26)) (k1_pay23 (k1_pay29 x0 x1 x2 x3) (View.ld x0 r1_25) (View.ld x1 r1_26))⟩,
    ⟨r1_23, k1_pay20 (k1_pay29 x0 x1 x2 x3) (View.ld x0 r1_23) (View.ld x1 r1_24) (View.ld x2 r1_24)⟩,
    ⟨r1_21, k1_pay19 (k1_pay29 x0 x1 x2 x3) (k1_pay17 (View.ld x2 r1_22)) (k1_pay18 (View.ld x0 r1_21) (View.ld x1 r1_22))⟩,
    ⟨r1_19, k1_pay16 (k1_pay29 x0 x1 x2 x3) (View.ld x0 r1_19) (View.ld x1 r1_20) (View.ld x2 r1_20)⟩,
    ⟨r1_17, k1_pay15 (k1_pay29 x0 x1 x2 x3) (k1_pay13 (View.ld x0 r1_17)) (k1_pay14 (View.ld x1 r1_18)) (View.ld x2 r1_18)⟩,
    ⟨r1_15, k1_pay12 (k1_pay29 x0 x1 x2 x3) (View.ld x0 r1_15) (View.ld x1 r1_16) (View.ld x2 r1_16)⟩,
    ⟨r1_13, k1_pay11 (k1_pay29 x0 x1 x2 x3) (k1_pay10 (View.ld x0 r1_13)) (View.ld x1 r1_14) (View.ld x2 r1_14)⟩,
    ⟨r1_11, k1_pay9 (k1_pay29 x0 x1 x2 x3) (View.ld x0 r1_11) (View.ld x1 r1_12) (View.ld x2 r1_12)⟩,
    ⟨r1_9, k1_pay8 (k1_pay29 x0 x1 x2 x3) (View.ld x0 r1_9) (View.ld x1 r1_10) (View.ld x2 r1_10)⟩,
    ⟨r1_7, k1_pay7 (k1_pay29 x0 x1 x2 x3) (View.ld x0 r1_7) (View.ld x1 r1_8) (View.ld x2 r1_8)⟩,
    ⟨r1_5, k1_pay6 (k1_pay29 x0 x1 x2 x3) (View.ld x0 r1_5) (View.ld x1 r1_6) (View.ld x2 r1_6)⟩,
    ⟨r1_3, k1_pay5 (View.ld x3 r1_0) (View.ld x0 r1_3) (View.ld x1 r1_4) (View.ld x2 r1_4)⟩,
    ⟨r1_1, k1_pay4 (View.ld x3 r1_0) (View.ld x0 r1_1) (View.ld x1 r1_2) (View.ld x2 r1_2)⟩]

theorem cover1_4 (p0 : Vec F S256x64 .f32) (p1 : Vec F S256x64 .f32) (p2 : Vec F S256x64 .f32) (p3 : Vec F S256x64 .f32) (p4 : Vec F S256x64 .f32) (p5 : Vec F S256x64 .f32) (p6 : Vec F S256x64 .f32) (p7 : Vec F S256x64 .f32) (p8 : Vec F S256x64 .f32) (p9 : Vec F S256x64 .f32) (p10 : Vec F S256x64 .f32) (p11 : Vec F S256x64 .f32) (p12 : Vec F S256x64 .f32) (p13 : Vec F S256x64 .f32) (p14 : Vec F S256x64 .f32) (p15 : Vec F S256x64 .f32) (y : S256x1024.Idx) :
    ∃ pc ∈ ([⟨r1_31, p0⟩, ⟨r1_29, p1⟩, ⟨r1_27, p2⟩, ⟨r1_25, p3⟩, ⟨r1_23, p4⟩, ⟨r1_21, p5⟩, ⟨r1_19, p6⟩, ⟨r1_17, p7⟩, ⟨r1_15, p8⟩, ⟨r1_13, p9⟩, ⟨r1_11, p10⟩, ⟨r1_9, p11⟩, ⟨r1_7, p12⟩, ⟨r1_5, p13⟩, ⟨r1_3, p14⟩, ⟨r1_1, p15⟩] : List (View.Piece (Elt F) S256x1024 .f32)), y ∈ pc.1.set :=
  View.cover_of_tiled [⟨r1_31, p0⟩, ⟨r1_29, p1⟩, ⟨r1_27, p2⟩, ⟨r1_25, p3⟩, ⟨r1_23, p4⟩, ⟨r1_21, p5⟩, ⟨r1_19, p6⟩, ⟨r1_17, p7⟩, ⟨r1_15, p8⟩, ⟨r1_13, p9⟩, ⟨r1_11, p10⟩, ⟨r1_9, p11⟩, ⟨r1_7, p12⟩, ⟨r1_5, p13⟩, ⟨r1_3, p14⟩, ⟨r1_1, p15⟩] S256x64.size (by rfl) y

set_option maxHeartbeats 1000000 in
theorem sound_kernel1 (c : Dev nD) (E : Set ℕ) (i : grid1.Coords) (arg1 : Memref sig .tc .vmem S256x1024 .bf16) (harg1 : arg1.IsWhole) (arg2 : Memref sig .tc .vmem S2048x1024 .bf16) (harg2 : arg2.IsWhole) (arg3 : Memref sig .tc .vmem S2048x1024 .bf16) (harg3 : arg3.IsWhole) (arg4 : Memref sig .tc .vmem S256x2048 .bf16) (harg4 : arg4.IsWhole) (arg5 : Memref sig .tc .vmem S256x1024 .f32) (harg5 : arg5.IsWhole)
    (x0 : Vec F S256x1024 .bf16) (x1 : Vec F S2048x1024 .bf16) (x2 : Vec F S2048x1024 .bf16) (x3 : Vec F S256x2048 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__attn_body i arg1 harg1 arg2 harg2 arg3 harg3 arg4 harg4 arg5 harg5) K := by
  simp only [cc1__attn_body_eq_skeleton]; unfold cc1__attn_body_skel
  simp only [k1_part1_eq_skeleton, k1_part2_eq_skeleton, k1_part3_eq_skeleton, k1_part4_eq_skeleton, k1_part5_eq_skeleton, k1_part6_eq_skeleton, k1_part7_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover1_4 _ _ _ _ _ _ _ _ _ _ _ _ _ _ _ _)).trans ?_
  rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Body

end
-- ==== Proof.KernelIdealRun.lean ====
/- The run of the idealized kernel: the contents of the buffers between the host stretches and the regions, and the run's end. -/
module

public import proofs.«01_k».proof.Proof.KernelIdealProj
public import proofs.«01_k».proof.Proof.KernelIdealAttn
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Body

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
abbrev argRefs : List (Ref sig .tc) := [main_arg0, main_arg1, main_arg2, main_arg3, main_arg4]

theorem hostOps0_fresh : (hostOps0 : List (HloOp τ sig (Elt F))).Forall fun op => op.fresh = ∅ := by
  simp only [List.Forall]; repeat' constructor
abbrev hostOps0_W : List (Ref sig .tc) := [main_call0_v0, main_call0_v1, main_call0_v2, main_call0_v3, main_call0_v4, main_call0_v5, main_call0_v6, main_call0_v7, main_call0_v8]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v0_0, main_v0_1]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

abbrev W4 : Dev nD → Valuation τ sig (Elt F) := fun c => StableHlo.after hostOps2 (W3 m ρ c)
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every buffer outside a scope ends at its content after the last host stretch, and every counter ends at zero. -/
theorem run_main : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c => h c, funext fun g => hz g (.inr (no_unscoped g.2))⟩)

/-- The arguments end as they were launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨(h.1 c _ (mem_uc main_arg0 (by decide))).trans (W4_args m ρ c main_arg0 (by decide)),
     (h.1 c _ (mem_uc main_arg1 (by decide))).trans (W4_args m ρ c main_arg1 (by decide)),
     (h.1 c _ (mem_uc main_arg2 (by decide))).trans (W4_args m ρ c main_arg2 (by decide)),
     (h.1 c _ (mem_uc main_arg3 (by decide))).trans (W4_args m ρ c main_arg3 (by decide)),
     (h.1 c _ (mem_uc main_arg4 (by decide))).trans (W4_args m ρ c main_arg4 (by decide))⟩, h.2⟩) (run_main m ρ)

/-- The two result arrays end at their contents after the last host stretch, the arguments as they were launched. -/
theorem results : θ_run defs (onTc (τ := τ) (main (F := F))) ⟨m, fun _ => 0, ρ⟩ (fun r => ∀ c : Dev nD,
      r.2.mem ((c.tc : Thread nD τ).loc main_v0_0) = W4 m ρ c (Proc.devRef .tc main_v0_0)
      ∧ r.2.mem ((c.tc : Thread nD τ).loc main_v0_1) = W4 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h.1 c _ (mem_uc main_v0_0 (by decide)), h.1 c _ (mem_uc main_v0_1 (by decide)),
     (h.1 c _ (mem_uc main_arg0 (by decide))).trans (W4_args m ρ c main_arg0 (by decide)),
     (h.1 c _ (mem_uc main_arg1 (by decide))).trans (W4_args m ρ c main_arg1 (by decide)),
     (h.1 c _ (mem_uc main_arg2 (by decide))).trans (W4_args m ρ c main_arg2 (by decide)),
     (h.1 c _ (mem_uc main_arg3 (by decide))).trans (W4_args m ρ c main_arg3 (by decide)),
     (h.1 c _ (mem_uc main_arg4 (by decide))).trans (W4_args m ρ c main_arg4 (by decide))⟩) (run_main m ρ)

end Cert.KernelIdeal.Body

end
-- ==== Proof.KernelRounds.lean ====
/- The rounds by which the idealized kernel builds its mask. -/
module

public import proofs.«01_k».proof.Proof.KernelIdealProj

@[expose] public section

set_option maxRecDepth 16384

noncomputable section

/-! # The two selections of the mask, as rounds

Both ways the body builds the mask repeat one round seventeen times. Here each is written as a recursion
on the number of rounds, and what the body stores is shown to be what the recursion gives. -/

namespace Cert.KernelIdeal.Body

open Cert.KernelIdeal.Gen Idealize.ShloMosaic Idealize.ShloMosaic.TcCoe

variable {F : FTy → Type} [FloatOps F] [Named F]

/-- Every row's smallest entry, repeated along the row. -/
def rowMin (x : FVec F S256x2048 .f32) : FVec F S256x2048 .f32 :=
  broadcastTo S256x2048 (shapeCast S256x1 (multiReduction .minimumf [1] S256 x 0x7F800000#32 reduces_S256x2048_S256 (.inl rfl) rfl) shapeCasts_S256_S256x1) broadcasts_S256x1_S256x2048

/-- Where an entry equals its row's smallest. -/
def hit (x : FVec F S256x2048 .f32) : IVec S256x2048 1 := cmpf .oeq x (rowMin x)

/-- Every row's lowest lane among the marked ones, repeated along the row. -/
def lowLane (s : IVec S256x2048 1) : IVec S256x2048 32 :=
  broadcastTo S256x2048 (shapeCast S256x1 (multiReductionI .minsi [1] S256 (select s lanes (broadcast S256x2048 2048#32)) 2147483647#32 reduces_S256x2048_S256 rfl) shapeCasts_S256_S256x1) broadcasts_S256x1_S256x2048

/-- Where an entry is the first of its row to equal the row's smallest. -/
def first (x : FVec F S256x2048 .f32) : IVec S256x2048 1 := cmpi .eq lanes (lowLane (hit x))

/-- The entries with the marked ones replaced by infinity. -/
def kill (s : IVec S256x2048 1) (x : FVec F S256x2048 .f32) : FVec F S256x2048 .f32 :=
  select s (broadcast S256x2048 (Scalar.ofBits .f32 0x7F800000#32)) x

/-- The entries with the marked ones replaced by zero. -/
def mark (s : IVec S256x2048 1) (x : FVec F S256x2048 .f32) : FVec F S256x2048 .f32 :=
  select s (broadcast S256x2048 (Scalar.ofBits .f32 0x00000000#32)) x

/-- One round that removes the first of the smallest. -/
def next (x : FVec F S256x2048 .f32) : FVec F S256x2048 .f32 := kill (first x) x
/-- One round that removes all of the smallest. -/
def wipe (x : FVec F S256x2048 .f32) : FVec F S256x2048 .f32 := kill (hit x) x

/-- What is left after `n` rounds that each remove the first of the smallest. -/
def after (d : FVec F S256x2048 .f32) : Nat → FVec F S256x2048 .f32
  | 0 => d
  | n + 1 => next (after d n)
/-- The mask after round `n`: zero where rounds one to `n` chose. -/
def chosen (d : FVec F S256x2048 .f32) : Nat → FVec F S256x2048 .f32
  | 0 => broadcast S256x2048 (Named.named κ "mask" 0xCE6E6B28#32)
  | n + 1 => mark (first (after d (n + 1))) (chosen d n)
/-- What is left after `n` rounds that each remove all of the smallest. -/
def wiped (d : FVec F S256x2048 .f32) : Nat → FVec F S256x2048 .f32
  | 0 => d
  | n + 1 => wipe (wiped d n)
/-- Where one of `n` rounds that each take all of the smallest took the entry. -/
def took (d : FVec F S256x2048 .f32) : Nat → IVec S256x2048 1
  | 0 => broadcast S256x2048 0#1
  | n + 1 => ori (took d n) (hit (wiped d n))

/-! ## The rounds that take the first -/

theorem pay2_eq (x : FVec F S256x2048 .f32) : k0_pay2 x = next x := rfl
theorem pay3_eq (x : FVec F S256x2048 .f32) : k0_pay3 x = first (next x) := by
  unfold k0_pay3; rw [pay2_eq]; rfl
theorem pay4_eq (x : FVec F S256x2048 .f32) : k0_pay4 x = next (next x) := by
  unfold k0_pay4; rw [pay3_eq, pay2_eq]; rfl
theorem pay5_eq (x : FVec F S256x2048 .f32) : k0_pay5 x = first (next (next x)) := by
  unfold k0_pay5; rw [pay4_eq]; rfl
theorem pay6_eq (x : FVec F S256x2048 .f32) : k0_pay6 x = chosen x 2 := by
  unfold k0_pay6; rw [pay5_eq, pay3_eq]; rfl
theorem pay7_eq (x : FVec F S256x2048 .f32) : k0_pay7 x = after x 3 := by
  unfold k0_pay7; rw [pay5_eq, pay4_eq]; rfl

/-- Every row's smallest entry, as a column. -/
def minCol (x : FVec F S256x2048 .f32) : FVec F S256x1 .f32 :=
  shapeCast S256x1 (multiReduction .minimumf [1] S256 x 0x7F800000#32 reduces_S256x2048_S256 (.inl rfl) rfl) shapeCasts_S256_S256x1

theorem pay8_eq (x : FVec F S256x2048 .f32) : k0_pay8 x = minCol (after x 3) := by
  unfold k0_pay8; rw [pay7_eq]; rfl

theorem pay9_eq (x : FVec F S256x2048 .f32) : k0_pay9 lanes x (minCol x) = first x := rfl
theorem pay10_eq (x : FVec F S256x2048 .f32) : k0_pay10 lanes x (minCol x) = next x := by
  unfold k0_pay10; rw [pay9_eq]; rfl
theorem pay11_eq (x : FVec F S256x2048 .f32) : k0_pay11 lanes x (minCol x) = first (next x) := by
  unfold k0_pay11; rw [pay10_eq]; rfl
theorem pay12_eq (x : FVec F S256x2048 .f32) : k0_pay12 lanes x (minCol x) = next (next x) := by
  unfold k0_pay12; rw [pay11_eq, pay10_eq]; rfl
theorem pay13_eq (x : FVec F S256x2048 .f32) : k0_pay13 lanes x (minCol x) = first (next (next x)) := by
  unfold k0_pay13; rw [pay12_eq]; rfl
theorem pay14_eq (x a : FVec F S256x2048 .f32) :
    k0_pay14 lanes a x (minCol x) = mark (first (next (next x))) (mark (first (next x)) (mark (first x) a)) := by
  unfold k0_pay14; rw [pay13_eq, pay11_eq, pay9_eq]; rfl
theorem pay15_eq (x : FVec F S256x2048 .f32) : k0_pay15 lanes x (minCol x) = next (next (next x)) := by
  unfold k0_pay15; rw [pay13_eq, pay12_eq]; rfl
theorem pay16_eq (x : FVec F S256x2048 .f32) : k0_pay16 lanes x (minCol x) = hit (next (next (next x))) := by
  unfold k0_pay16; rw [pay15_eq]; rfl

theorem pay17_eq (x : FVec F S256x2048 .f32) : k0_pay17 lanes (hit x) 2048#32 = first x := rfl
theorem pay18_eq (x : FVec F S256x2048 .f32) : k0_pay18 lanes x (hit x) 2048#32 = next x := by
  unfold k0_pay18; rw [pay17_eq]; rfl
theorem pay19_eq (x : FVec F S256x2048 .f32) : k0_pay19 lanes x (hit x) 2048#32 = first (next x) := by
  unfold k0_pay19; rw [pay18_eq]; rfl
theorem pay20_eq (x : FVec F S256x2048 .f32) : k0_pay20 lanes x (hit x) 2048#32 = next (next x) := by
  unfold k0_pay20; rw [pay19_eq, pay18_eq]; rfl
theorem pay21_eq (x : FVec F S256x2048 .f32) : k0_pay21 lanes x (hit x) 2048#32 = first (next (next x)) := by
  unfold k0_pay21; rw [pay20_eq]; rfl
theorem pay22_eq (x a : FVec F S256x2048 .f32) :
    k0_pay22 lanes a x (hit x) 2048#32 = mark (first (next (next x))) (mark (first (next x)) (mark (first x) a)) := by
  unfold k0_pay22; rw [pay21_eq, pay19_eq, pay17_eq]; rfl
theorem pay23_eq (x : FVec F S256x2048 .f32) : k0_pay23 lanes x (hit x) 2048#32 = next (next (next x)) := by
  unfold k0_pay23; rw [pay21_eq, pay20_eq]; rfl

/-- The lanes of the marked entries, and 2048 elsewhere. -/
def marked (s : IVec S256x2048 1) : IVec S256x2048 32 := select s lanes (broadcast S256x2048 2048#32)

theorem pay24_eq (x : FVec F S256x2048 .f32) :
    k0_pay24 lanes x (hit x) 2048#32 = marked (hit (next (next (next x)))) := by
  unfold k0_pay24; rw [pay23_eq]; rfl

theorem pay25_eq (x : FVec F S256x2048 .f32) : k0_pay25 lanes (marked (hit x)) = first x := rfl
theorem pay26_eq (x : FVec F S256x2048 .f32) : k0_pay26 lanes x (marked (hit x)) = next x := by
  unfold k0_pay26; rw [pay25_eq]; rfl
theorem pay27_eq (x : FVec F S256x2048 .f32) : k0_pay27 lanes x (marked (hit x)) = first (next x) := by
  unfold k0_pay27; rw [pay26_eq]; rfl
theorem pay28_eq (x : FVec F S256x2048 .f32) : k0_pay28 lanes x (marked (hit x)) = next (next x) := by
  unfold k0_pay28; rw [pay27_eq, pay26_eq]; rfl
theorem pay29_eq (x : FVec F S256x2048 .f32) : k0_pay29 lanes x (marked (hit x)) = first (next (next x)) := by
  unfold k0_pay29; rw [pay28_eq]; rfl
theorem pay30_eq (x a : FVec F S256x2048 .f32) :
    k0_pay30 lanes a x (marked (hit x)) = mark (first (next (next x))) (mark (first (next x)) (mark (first x) a)) := by
  unfold k0_pay30; rw [pay29_eq, pay27_eq, pay25_eq]; rfl
theorem pay31_eq (x : FVec F S256x2048 .f32) : k0_pay31 lanes x (marked (hit x)) = next (next (next x)) := by
  unfold k0_pay31; rw [pay29_eq, pay28_eq]; rfl
theorem pay32_eq (x : FVec F S256x2048 .f32) :
    k0_pay32 lanes x (marked (hit x)) = lowLane (hit (next (next (next x)))) := by
  unfold k0_pay32; rw [pay31_eq]; rfl

theorem pay33_eq (x : FVec F S256x2048 .f32) : k0_pay33 lanes (lowLane (hit x)) = first x := rfl
theorem pay34_eq (x : FVec F S256x2048 .f32) : k0_pay34 lanes x (lowLane (hit x)) = next x := by
  unfold k0_pay34; rw [pay33_eq]; rfl
theorem pay35_eq (x : FVec F S256x2048 .f32) : k0_pay35 lanes x (lowLane (hit x)) = first (next x) := by
  unfold k0_pay35; rw [pay34_eq]; rfl
theorem pay36_eq (x : FVec F S256x2048 .f32) : k0_pay36 lanes x (lowLane (hit x)) = next (next x) := by
  unfold k0_pay36; rw [pay35_eq, pay34_eq]; rfl
theorem pay37_eq (x : FVec F S256x2048 .f32) : k0_pay37 lanes x (lowLane (hit x)) = first (next (next x)) := by
  unfold k0_pay37; rw [pay36_eq]; rfl
theorem pay38_eq (x a : FVec F S256x2048 .f32) :
    k0_pay38 lanes a x (lowLane (hit x)) = mark (first (next (next x))) (mark (first (next x)) (mark (first x) a)) := by
  unfold k0_pay38; rw [pay37_eq, pay35_eq, pay33_eq]; rfl
theorem pay39_eq (x : FVec F S256x2048 .f32) : k0_pay39 lanes x (lowLane (hit x)) = next (next (next x)) := by
  unfold k0_pay39; rw [pay37_eq, pay36_eq]; rfl
theorem pay40_eq (x : FVec F S256x2048 .f32) : k0_pay40 lanes x (lowLane (hit x)) = first (next (next (next x))) := by
  unfold k0_pay40; rw [pay39_eq]; rfl

theorem pay1_eq (x a : FVec F S256x2048 .f32) :
    k0_pay1 lanes a x (first x) (k0_pay41 (F := F)) = truncf .bf16 (mark (first (next x)) (mark (first x) a)) bitsLt_bf16_f32 := rfl

theorem sv304_eq (d : FVec F S256x2048 .f32) : sv304 d = chosen d 5 := by
  unfold sv304 sv262 sv264 sv266; rw [pay6_eq, pay7_eq, pay8_eq, pay14_eq]; rfl
theorem sv306_eq (d : FVec F S256x2048 .f32) : sv306 d = after d 6 := by
  unfold sv306 sv264 sv266; rw [pay7_eq, pay8_eq, pay15_eq]; rfl
theorem sv310_eq (d : FVec F S256x2048 .f32) : sv310 d = hit (after d 6) := by
  unfold sv310 sv264 sv266; rw [pay7_eq, pay8_eq, pay16_eq]; rfl
theorem sv346_eq (d : FVec F S256x2048 .f32) : sv346 d = chosen d 8 := by
  unfold sv346; rw [sv304_eq, sv306_eq, sv310_eq, pay22_eq]; rfl
theorem sv348_eq (d : FVec F S256x2048 .f32) : sv348 d = after d 9 := by
  unfold sv348; rw [sv306_eq, sv310_eq, pay23_eq]; rfl
theorem sv354_eq (d : FVec F S256x2048 .f32) : sv354 d = marked (hit (after d 9)) := by
  unfold sv354; rw [sv306_eq, sv310_eq, pay24_eq]; rfl
theorem sv388_eq (d : FVec F S256x2048 .f32) : sv388 d = chosen d 11 := by
  unfold sv388; rw [sv346_eq, sv348_eq, sv354_eq, pay30_eq]; rfl
theorem sv390_eq (d : FVec F S256x2048 .f32) : sv390 d = after d 12 := by
  unfold sv390; rw [sv348_eq, sv354_eq, pay31_eq]; rfl
theorem sv399_eq (d : FVec F S256x2048 .f32) : sv399 d = lowLane (hit (after d 12)) := by
  unfold sv399; rw [sv348_eq, sv354_eq, pay32_eq]; rfl
theorem sv430_eq (d : FVec F S256x2048 .f32) : sv430 d = chosen d 14 := by
  unfold sv430; rw [sv388_eq, sv390_eq, sv399_eq, pay38_eq]; rfl
theorem sv432_eq (d : FVec F S256x2048 .f32) : sv432 d = after d 15 := by
  unfold sv432; rw [sv390_eq, sv399_eq, pay39_eq]; rfl
theorem sv442_eq (d : FVec F S256x2048 .f32) : sv442 d = first (after d 15) := by
  unfold sv442; rw [sv390_eq, sv399_eq, pay40_eq]; rfl

theorem slowMask_eq (d : FVec F S256x2048 .f32) : slowMask d = truncf .bf16 (chosen d 16) bitsLt_bf16_f32 := by
  unfold slowMask; rw [sv430_eq, sv432_eq, sv442_eq, pay1_eq]; rfl

/-! ## The rounds that take all -/

/-- Every row's smallest entry, one number a row. -/
def minOf (x : FVec F S256x2048 .f32) : FVec F S256 .f32 :=
  multiReduction .minimumf [1] S256 x 0x7F800000#32 reduces_S256x2048_S256 (.inl rfl) rfl

theorem pay54_eq (x : FVec F S256x2048 .f32) : k0_pay54 x (minOf x) = hit x := rfl
theorem pay55_eq (x : FVec F S256x2048 .f32) : k0_pay55 x (minOf x) = wipe x := by
  unfold k0_pay55; rw [pay54_eq]; rfl
theorem pay56_eq (x : FVec F S256x2048 .f32) : k0_pay56 x (minOf x) = hit (wipe x) := by
  unfold k0_pay56; rw [pay55_eq]; rfl
theorem pay57_eq (x : FVec F S256x2048 .f32) : k0_pay57 x (minOf x) = wiped x 2 := by
  unfold k0_pay57; rw [pay56_eq, pay55_eq]; rfl
theorem pay58_eq (x : FVec F S256x2048 .f32) : k0_pay58 x (minOf x) = hit (wiped x 2) := by
  unfold k0_pay58; rw [pay57_eq]; rfl
theorem pay59_eq (x : FVec F S256x2048 .f32) : k0_pay59 x (minOf x) = wiped x 3 := by
  unfold k0_pay59; rw [pay58_eq, pay57_eq]; rfl
theorem pay60_eq (x : FVec F S256x2048 .f32) : k0_pay60 x (minOf x) = hit (wiped x 3) := by
  unfold k0_pay60; rw [pay59_eq]; rfl
theorem pay61_eq (x : FVec F S256x2048 .f32) : k0_pay61 x (minOf x) = wiped x 4 := by
  unfold k0_pay61; rw [pay60_eq, pay59_eq]; rfl
theorem pay62_eq (x : FVec F S256x2048 .f32) : k0_pay62 x (minOf x) = hit (wiped x 4) := by
  unfold k0_pay62; rw [pay61_eq]; rfl
theorem pay63_eq (x : FVec F S256x2048 .f32) : k0_pay63 x (minOf x) = wiped x 5 := by
  unfold k0_pay63; rw [pay62_eq, pay61_eq]; rfl
theorem pay64_eq (x : FVec F S256x2048 .f32) : k0_pay64 x (minOf x) = hit (wiped x 5) := by
  unfold k0_pay64; rw [pay63_eq]; rfl
theorem pay65_eq (x : FVec F S256x2048 .f32) : k0_pay65 x (minOf x) = wiped x 6 := by
  unfold k0_pay65; rw [pay64_eq, pay63_eq]; rfl
theorem pay66_eq (x : FVec F S256x2048 .f32) : k0_pay66 x (minOf x) = hit (wiped x 6) := by
  unfold k0_pay66; rw [pay65_eq]; rfl
theorem pay67_eq (t : IVec S256x2048 1) (x : FVec F S256x2048 .f32) : k0_pay67 t x (minOf x) =
    ori (ori (ori (ori (ori (ori (ori t (hit x)) (hit (wipe x))) (hit (wiped x 2))) (hit (wiped x 3))) (hit (wiped x 4))) (hit (wiped x 5))) (hit (wiped x 6)) := by
  unfold k0_pay67; rw [pay54_eq, pay56_eq, pay58_eq, pay60_eq, pay62_eq, pay64_eq, pay66_eq]

theorem pay69_eq (x : FVec F S256x2048 .f32) : k0_pay69 x (hit x) (k0_pay68 (F := F)) = wipe x := rfl
theorem pay70_eq (x : FVec F S256x2048 .f32) : k0_pay70 x (hit x) (k0_pay68 (F := F)) = hit (wipe x) := by
  unfold k0_pay70; rw [pay69_eq]; rfl
theorem pay71_eq (x : FVec F S256x2048 .f32) : k0_pay71 x (hit x) (k0_pay68 (F := F)) = wiped x 2 := by
  unfold k0_pay71; rw [pay70_eq, pay69_eq]; rfl
theorem pay72_eq (x : FVec F S256x2048 .f32) : k0_pay72 x (hit x) (k0_pay68 (F := F)) = hit (wiped x 2) := by
  unfold k0_pay72; rw [pay71_eq]; rfl
theorem pay73_eq (x : FVec F S256x2048 .f32) : k0_pay73 x (hit x) (k0_pay68 (F := F)) = wiped x 3 := by
  unfold k0_pay73; rw [pay72_eq, pay71_eq]; rfl
theorem pay74_eq (x : FVec F S256x2048 .f32) : k0_pay74 x (hit x) (k0_pay68 (F := F)) = hit (wiped x 3) := by
  unfold k0_pay74; rw [pay73_eq]; rfl
theorem pay75_eq (x : FVec F S256x2048 .f32) : k0_pay75 x (hit x) (k0_pay68 (F := F)) = wiped x 4 := by
  unfold k0_pay75; rw [pay74_eq, pay73_eq]; rfl
theorem pay76_eq (x : FVec F S256x2048 .f32) : k0_pay76 x (hit x) (k0_pay68 (F := F)) = hit (wiped x 4) := by
  unfold k0_pay76; rw [pay75_eq]; rfl
theorem pay77_eq (x : FVec F S256x2048 .f32) : k0_pay77 x (hit x) (k0_pay68 (F := F)) = wiped x 5 := by
  unfold k0_pay77; rw [pay76_eq, pay75_eq]; rfl
theorem pay78_eq (x : FVec F S256x2048 .f32) : k0_pay78 x (hit x) (k0_pay68 (F := F)) = hit (wiped x 5) := by
  unfold k0_pay78; rw [pay77_eq]; rfl
theorem pay79_eq (x : FVec F S256x2048 .f32) : k0_pay79 x (hit x) (k0_pay68 (F := F)) = wiped x 6 := by
  unfold k0_pay79; rw [pay78_eq, pay77_eq]; rfl
theorem pay80_eq (x : FVec F S256x2048 .f32) : k0_pay80 x (hit x) (k0_pay68 (F := F)) = hit (wiped x 6) := by
  unfold k0_pay80; rw [pay79_eq]; rfl
theorem pay81_eq (t : IVec S256x2048 1) (x : FVec F S256x2048 .f32) : k0_pay81 x (hit x) t (k0_pay68 (F := F)) =
    ori (ori (ori (ori (ori (ori t (hit (wipe x))) (hit (wiped x 2))) (hit (wiped x 3))) (hit (wiped x 4))) (hit (wiped x 5))) (hit (wiped x 6)) := by
  unfold k0_pay81; rw [pay70_eq, pay72_eq, pay74_eq, pay76_eq, pay78_eq, pay80_eq]
theorem pay82_eq (x : FVec F S256x2048 .f32) : k0_pay82 x (hit x) (k0_pay68 (F := F)) = wiped x 7 := by
  unfold k0_pay82; rw [pay80_eq, pay79_eq]; rfl
theorem pay83_eq (x : FVec F S256x2048 .f32) : k0_pay83 x (hit x) (k0_pay68 (F := F)) = hit (wiped x 7) := by
  unfold k0_pay83; rw [pay82_eq]; rfl
theorem pay84_eq (t : IVec S256x2048 1) (x : FVec F S256x2048 .f32) :
    k0_pay84 t x (hit x) = ori (ori (ori t (hit x)) (hit (wipe x))) (hit (wiped x 2)) := rfl

section
variable (x2 : Vec F S256x3 .f32) (x3 : Vec F S3x2048 .f32)

theorem fv83_eq : fv83 x2 x3 = took (dist x2 x3) 1 := rfl
theorem fv85_eq : fv85 x2 x3 = wiped (dist x2 x3) 1 := rfl
theorem fv86_eq : fv86 x2 x3 = minOf (wiped (dist x2 x3) 1) := rfl
theorem fv127_eq : fv127 x2 x3 = wiped (dist x2 x3) 7 := by
  unfold fv127; rw [fv85_eq, fv86_eq, pay65_eq]; rfl
theorem fv131_eq : fv131 x2 x3 = hit (wiped (dist x2 x3) 7) := by
  unfold fv131; rw [fv85_eq, fv86_eq, pay66_eq]; rfl
theorem fv132_eq : fv132 x2 x3 = took (dist x2 x3) 8 := by
  unfold fv132; rw [fv83_eq, fv85_eq, fv86_eq, pay67_eq]; rfl
theorem fv174_eq : fv174 x2 x3 = took (dist x2 x3) 14 := by
  unfold fv174; rw [fv127_eq, fv131_eq, fv132_eq, pay81_eq]; rfl
theorem fv176_eq : fv176 x2 x3 = wiped (dist x2 x3) 14 := by
  unfold fv176; rw [fv127_eq, fv131_eq, pay82_eq]; rfl
theorem fv180_eq : fv180 x2 x3 = hit (wiped (dist x2 x3) 14) := by
  unfold fv180; rw [fv127_eq, fv131_eq, pay83_eq]; rfl
theorem inmask_eq : k0_pay84 (fv174 x2 x3) (fv176 x2 x3) (fv180 x2 x3) = took (dist x2 x3) 17 := by
  rw [fv174_eq, fv176_eq, fv180_eq, pay84_eq]; rfl

theorem fastMask_eq : fastMask x2 x3 = truncf .bf16 (mark (andi (took (dist x2 x3) 17) (xori (hit (dist x2 x3)) (constantI S256x2048 1 1#1)))
    (broadcast S256x2048 (Named.named κ "mask" 0xCE6E6B28#32))) bitsLt_bf16_f32 := by
  unfold fastMask k0_pay85; rw [inmask_eq]; rfl

/-- How many entries of every row were taken. -/
def counts (t : IVec S256x2048 1) : FVec F S256 .f32 :=
  multiReduction .add [1] S256 (sitofp .f32 (extui 32 t natLt_1_32)) 0x00000000#32 reduces_S256x2048_S256 (.inl rfl) rfl
/-- One in the rows whose count is seventeen, zero in the others. -/
def good (c : FVec F S256 .f32) : FVec F S256 .f32 :=
  select (cmpf .oeq c (broadcast S256 (Scalar.ofBits .f32 0x41880000#32))) (broadcast S256 (Scalar.ofBits .f32 0x3F800000#32)) (broadcast S256 (Scalar.ofBits .f32 0x00000000#32))
/-- The smallest of 256 numbers. -/
def minAll (g : FVec F S256 .f32) : F .f32 :=
  extractAt ![0, 0] (shapeCast S1x1 (multiReduction .minimumf [1] S1 (shapeCast S1x256 g shapeCasts_S256_S1x256) 0x7F800000#32 reduces_S1x256_S1 (.inl rfl) rfl) shapeCasts_S1_S1x1) inpos_S1x1_p0_0

theorem slowWord_eq : slowWord x2 x3 =
    Scalar.cmpi .ne (Scalar.extui (Scalar.xori (Scalar.cmpf .ogt (minAll (good (counts (F := F) (took (dist x2 x3) 17)))) (Scalar.ofBits (F := F) .f32 0x00000000#32)) 1#1) : BitVec 32) 0#32 := by
  unfold slowWord k0_pay86; rw [inmask_eq]; rfl
end

end Cert.KernelIdeal.Body
-- ==== Proof.Knn.lean ====
/-
  The nearest 17 of N distances, three ways. `rank d j` is the place of position `j` when the
  positions are ordered by distance and, at equal distance, by position. A stable sort puts at place
  `r` the position of rank `r`; rounds that take the first position of the least remaining distance
  take the positions in order of rank; and rounds that take EVERY position of the least remaining
  distance take the same 17 positions whenever 17 rounds take 17 positions in all.
-/
module

public import Idealize.ShloMosaic.Lib.PlanTiles.StableSort
public import Idealize.ShloMosaic.Lib.SortFacts
public import Mathlib.Data.EReal.Basic
public import Mathlib.Data.Finset.Card
public import Mathlib.Data.Finset.Lattice.Fold

@[expose] public section

noncomputable section

namespace Cert.Knn

open Idealize.ShloMosaic
open scoped Classical

variable {N : Nat} (d : Fin N → EReal)

/-- Position `i` comes before position `j`: it is nearer, or equally near and of lower number. -/
def Nearer (i j : Fin N) : Prop := d i < d j ∨ (d i = d j ∧ i < j)

theorem nearer_irrefl (i : Fin N) : ¬ Nearer d i i := by
  rintro (h | ⟨-, h⟩) <;> exact lt_irrefl _ h

theorem nearer_trans {i j k : Fin N} (h₁ : Nearer d i j) (h₂ : Nearer d j k) : Nearer d i k := by
  rcases h₁ with h₁ | ⟨e₁, h₁⟩ <;> rcases h₂ with h₂ | ⟨e₂, h₂⟩
  · exact Or.inl (h₁.trans h₂)
  · exact Or.inl (e₂ ▸ h₁)
  · exact Or.inl (e₁ ▸ h₂)
  · exact Or.inr ⟨e₁.trans e₂, h₁.trans h₂⟩

theorem nearer_total {i j : Fin N} (h : i ≠ j) : Nearer d i j ∨ Nearer d j i := by
  rcases lt_trichotomy (d i) (d j) with h₁ | h₁ | h₁
  · exact Or.inl (Or.inl h₁)
  · rcases lt_or_gt_of_ne h with h₂ | h₂
    · exact Or.inl (Or.inr ⟨h₁, h₂⟩)
    · exact Or.inr (Or.inr ⟨h₁.symm, h₂⟩)
  · exact Or.inr (Or.inl h₁)

theorem nearer_le {i j : Fin N} (h : Nearer d i j) : d i ≤ d j := by
  rcases h with h | ⟨h, -⟩
  · exact h.le
  · exact h.le

/-- The positions that come before `j`. -/
def before (j : Fin N) : Finset (Fin N) := Finset.univ.filter fun i => Nearer d i j

theorem mem_before {i j : Fin N} : i ∈ before d j ↔ Nearer d i j := by simp [before]

/-- The number of positions that come before `j`. -/
def rank (j : Fin N) : Nat := (before d j).card

theorem rank_lt_of_nearer {i j : Fin N} (h : Nearer d i j) : rank d i < rank d j := by
  refine Finset.card_lt_card ⟨fun k hk => ?_, fun hs => ?_⟩
  · exact (mem_before d).mpr (nearer_trans d ((mem_before d).mp hk) h)
  · exact nearer_irrefl d i ((mem_before d).mp (hs ((mem_before d).mpr h)))

theorem nearer_of_rank_lt {i j : Fin N} (h : rank d i < rank d j) : Nearer d i j := by
  by_cases e : i = j
  · subst e; exact absurd h (lt_irrefl _)
  · rcases nearer_total d e with h' | h'
    · exact h'
    · exact absurd (rank_lt_of_nearer d h') (Nat.lt_asymm h)

theorem rank_injective : Function.Injective (rank d) := by
  intro i j h
  by_contra e
  rcases nearer_total d e with h' | h'
  · exact absurd (rank_lt_of_nearer d h') (by omega)
  · exact absurd (rank_lt_of_nearer d h') (by omega)

theorem rank_lt (j : Fin N) : rank d j < N := by
  have h : before d j ⊂ Finset.univ :=
    ⟨Finset.subset_univ _, fun h => nearer_irrefl d j ((mem_before d).mp (h (Finset.mem_univ j)))⟩
  have := Finset.card_lt_card h
  rwa [Finset.card_univ, Fintype.card_fin] at this

/-- Every place below `N` is some position's rank. -/
theorem exists_rank {r : Nat} (hr : r < N) : ∃ j, rank d j = r := by
  have hinj : Function.Injective fun j : Fin N => (⟨rank d j, rank_lt d j⟩ : Fin N) :=
    fun i j h => rank_injective d (by simpa using h)
  obtain ⟨j, hj⟩ := (Finite.injective_iff_surjective.mp hinj) ⟨r, hr⟩
  exact ⟨j, by simpa using hj⟩

/-! ## The stable sort -/

/-- The number of positions farther than `j`: it falls as the distance grows, and only then. -/
def farther (j : Fin N) : Nat := (Finset.univ.filter fun i => d j < d i).card

theorem farther_lt_iff (i j : Fin N) : farther d j < farther d i ↔ d i < d j := by
  constructor
  · intro h
    by_contra hn
    exact absurd (Finset.card_le_card fun k hk => by
      simp only [Finset.mem_filter, Finset.mem_univ, true_and] at hk ⊢
      exact lt_of_le_of_lt (not_lt.mp hn) hk) (not_le.mpr h)
  · intro h
    refine Finset.card_lt_card ⟨fun k hk => ?_, fun hs => ?_⟩
    · simp only [Finset.mem_filter, Finset.mem_univ, true_and] at hk ⊢
      exact h.trans hk
    · have := hs (Finset.mem_filter.mpr ⟨Finset.mem_univ j, h⟩)
      simp at this

theorem farther_eq {i j : Fin N} (h : farther d i = farther d j) : d i = d j := by
  rcases lt_trichotomy (d i) (d j) with h' | h' | h'
  · exact absurd ((farther_lt_iff d i j).mpr h') (by omega)
  · exact h'
  · exact absurd ((farther_lt_iff d j i).mpr h') (by omega)

/-- The stable sort by the distance lists the positions so that each comes before the later ones. -/
theorem pairwise_sortPositions : (sortPositions N fun i j => decide (d i < d j)).Pairwise (Nearer d) := by
  have e : (fun i j : Fin N => decide (d i < d j)) = fun i j => decide (farther d j < farther d i) := by
    funext i j
    exact decide_eq_decide.mpr (farther_lt_iff d i j).symm
  rw [e]
  unfold sortPositions
  refine (PlanTiles.pairwise_stableSort_lex (farther d) (fun i j : Fin N => i < j) _ (List.pairwise_lt_finRange N)).imp ?_
  rintro i j (h | ⟨h, h'⟩)
  · exact Or.inl ((farther_lt_iff d i j).mp h)
  · exact Or.inr ⟨farther_eq d h, h'⟩

/-- The stable sort by the distance puts at place `r` the position of rank `r`. -/
theorem rank_sortedFrom (r : Fin N) : rank d (sortedFrom (fun i j => decide (d i < d j)) r) = r.val := by
  have hlen := length_sortPositions N fun i j => decide (d i < d j)
  have hasc := List.pairwise_map.mpr ((pairwise_sortPositions d).imp fun h => rank_lt_of_nearer d h)
  have hnd : ((sortPositions N fun i j => decide (d i < d j)).map (rank d)).Nodup := hasc.imp fun h => Nat.ne_of_lt h
  have hperm : ((sortPositions N fun i j => decide (d i < d j)).map (rank d)).Perm (List.range N) := by
    refine (hnd.subperm fun x hx => ?_).perm_of_length_le ?_
    · obtain ⟨j, -, rfl⟩ := List.mem_map.mp hx
      exact List.mem_range.mpr (rank_lt d j)
    · rw [List.length_map, hlen, List.length_range]
  have heq := hperm.eq_of_pairwise' (hasc.imp fun h => Nat.le_of_lt h) (List.pairwise_lt_range.imp fun h => Nat.le_of_lt h)
  have h := congrArg (fun l : List Nat => l[r.val]?) heq
  simp only [List.getElem?_map, List.getElem?_range r.isLt] at h
  rw [List.getElem?_eq_getElem (by rw [hlen]; exact r.isLt)] at h
  exact Option.some.inj h

/-! ## Rounds -/

/-- The least entry (`⊤` of none). -/
def least (a : Fin N → EReal) : EReal := Finset.univ.inf a

theorem least_le (a : Fin N → EReal) (j : Fin N) : least a ≤ a j := Finset.inf_le (Finset.mem_univ j)

theorem least_eq_of {a : Fin N → EReal} {j : Fin N} (h : ∀ i, a j ≤ a i) : least a = a j :=
  le_antisymm (least_le a j) (Finset.le_inf fun i _ => h i)

theorem exists_least (a : Fin N → EReal) (hN : 0 < N) : ∃ j, a j = least a := by
  haveI : Nonempty (Fin N) := ⟨⟨0, hN⟩⟩
  obtain ⟨j, -, hj⟩ := Finset.exists_min_image Finset.univ a Finset.univ_nonempty
  exact ⟨j, (least_eq_of fun i => hj i (Finset.mem_univ i)).symm⟩

/-- `j` is the first position at which `a` is least. -/
def IsFirst (a : Fin N → EReal) (j : Fin N) : Prop := a j = least a ∧ ∀ i < j, a i ≠ least a

/-- The entries of `p` out of the running. -/
def drop (p : Fin N → Prop) (a : Fin N → EReal) (j : Fin N) : EReal := if p j then ⊤ else a j

theorem drop_pos {p : Fin N → Prop} {a : Fin N → EReal} {j : Fin N} (h : p j) : drop p a j = ⊤ := if_pos h

theorem drop_neg {p : Fin N → Prop} {a : Fin N → EReal} {j : Fin N} (h : ¬ p j) : drop p a j = a j := if_neg h

/-- The distances still in the running after `n` rounds that each take the first position of the least. -/
def rest : Nat → Fin N → EReal
  | 0 => d
  | n + 1 => drop (IsFirst (rest n)) (rest n)

variable (hd : ∀ j, d j ≠ ⊤)
include hd

/-- With the positions of rank below `n < N` out, the first position of the least distance has rank `n`. -/
theorem isFirst_drop_rank {n : Nat} (hn : n < N) (j : Fin N) :
    IsFirst (drop (fun i => rank d i < n) d) j ↔ rank d j = n := by
  obtain ⟨w, hw⟩ := exists_rank d hn
  have hdw : drop (fun i => rank d i < n) d w = d w := if_neg (by omega)
  have hmin : ∀ i, drop (fun i => rank d i < n) d w ≤ drop (fun i => rank d i < n) d i := by
    intro i
    rw [hdw]
    unfold drop
    split
    · exact le_top
    · next h =>
      by_cases e : rank d i = n
      · rw [rank_injective d (e.trans hw.symm)]
      · exact nearer_le d (nearer_of_rank_lt d (by omega))
  have hl := least_eq_of hmin
  rw [hdw] at hl
  have hwf : IsFirst (drop (fun i => rank d i < n) d) w := by
    refine ⟨by rw [hl, hdw], fun i hi => ?_⟩
    rw [hl]
    unfold drop
    split
    · exact fun h => hd w h.symm
    · next h =>
      intro e
      have := rank_lt_of_nearer d (Or.inr ⟨e, hi⟩ : Nearer d i w)
      omega
  constructor
  · intro h
    have : j = w := by
      rcases lt_trichotomy j w with h' | h' | h'
      · exact absurd h.1 (hwf.2 j h')
      · exact h'
      · exact absurd hwf.1 (h.2 w h')
    rw [this, hw]
  · intro h
    rwa [rank_injective d (h.trans hw.symm)]

theorem rest_eq : ∀ n, n ≤ N → rest d n = drop (fun i => rank d i < n) d
  | 0, _ => by funext j; simp [rest, drop]
  | n + 1, h => by
    have ih := rest_eq n (by omega)
    unfold rest
    rw [ih]
    funext j
    unfold drop
    have := isFirst_drop_rank d hd (show n < N by omega) j
    unfold drop at this
    rw [if_congr this rfl rfl]
    by_cases h1 : rank d j = n
    · rw [if_pos h1, if_pos (by omega)]
    · rw [if_neg h1]
      by_cases h2 : rank d j < n
      · rw [if_pos h2, if_pos (by omega)]
      · rw [if_neg h2, if_neg (by omega)]

/-- Round `n` takes the position of rank `n`. -/
theorem isFirst_rest {n : Nat} (hn : n < N) (j : Fin N) : IsFirst (rest d n) j ↔ rank d j = n := by
  rw [rest_eq d hd n hn.le]
  exact isFirst_drop_rank d hd hn j

omit hd

/-! ## Rounds that take every position of the least -/

/-- The distances still in the running after `n` rounds that each take all positions of the least. -/
def left : Nat → Fin N → EReal
  | 0 => d
  | n + 1 => drop (fun j => left n j = least (left n)) (left n)

/-- The positions taken by the first `n` such rounds. -/
def taken : Nat → Finset (Fin N)
  | 0 => ∅
  | n + 1 => taken n ∪ Finset.univ.filter fun j => left d n j = least (left d n)

theorem left_eq (n : Nat) : left d n = drop (· ∈ taken d n) d := by
  induction n with
  | zero => funext j; simp [left, taken, drop]
  | succ n ih =>
    funext j
    unfold left
    rw [show taken d (n + 1) = taken d n ∪ Finset.univ.filter fun j => left d n j = least (left d n) from rfl]
    by_cases h : left d n j = least (left d n)
    · rw [drop_pos h, drop_pos (Finset.mem_union_right _ (by simpa using h))]
    · rw [drop_neg (p := fun j => left d n j = least (left d n)) h]
      by_cases h' : j ∈ taken d n
      · rw [drop_pos (Finset.mem_union_left _ h'), ih, drop_pos h']
      · rw [drop_neg (p := (· ∈ taken d n ∪ _)) (fun hm => ?_), ih, drop_neg h']
        rcases Finset.mem_union.mp hm with hm | hm
        · exact h' hm
        · exact h (by simpa using hm)

include hd

/-- While a position is left, a round takes one more. -/
theorem card_taken_lt {n : Nat} (h : taken d n ≠ Finset.univ) : (taken d n).card < (taken d (n + 1)).card := by
  obtain ⟨w, hw⟩ : ∃ w, w ∉ taken d n := by
    by_contra hc
    push Not at hc
    exact h (Finset.eq_univ_iff_forall.mpr hc)
  have hN : 0 < N := Nat.lt_of_le_of_lt (Nat.zero_le _) w.isLt
  obtain ⟨j, hj⟩ := exists_least (left d n) hN
  have hjw : left d n j ≤ left d n w := hj ▸ least_le _ w
  have hjn : j ∉ taken d n := by
    intro hm
    rw [left_eq] at hjw
    rw [drop_pos hm, drop_neg hw, top_le_iff] at hjw
    exact hd w hjw
  refine Finset.card_lt_card ⟨Finset.subset_union_left, fun hs => hjn (hs ?_)⟩
  exact Finset.mem_union_right _ (by simpa using hj)

/-- Nearer positions are taken no later, as long as not every position is taken. -/
theorem taken_down {n : Nat} (hne : taken d n ≠ Finset.univ) {i j : Fin N} (hj : j ∈ taken d n) (hij : d i ≤ d j) :
    i ∈ taken d n := by
  induction n with
  | zero => simp [taken] at hj
  | succ n ih =>
    have hne' : taken d n ≠ Finset.univ := fun h => hne (Finset.eq_univ_iff_forall.mpr fun k =>
      Finset.mem_union_left _ (h ▸ Finset.mem_univ k))
    by_cases hin : i ∈ taken d n
    · exact Finset.mem_union_left _ hin
    rcases Finset.mem_union.mp hj with hj | hj
    · exact Finset.mem_union_left _ (ih hne' hj)
    · have hj' : left d n j = least (left d n) := by simpa using hj
      refine Finset.mem_union_right _ ?_
      simp only [Finset.mem_filter, Finset.mem_univ, true_and]
      refine le_antisymm (hj' ▸ ?_) (least_le _ i)
      rw [left_eq, drop_neg hin]
      unfold drop
      split
      · exact le_top
      · exact hij

omit hd in
theorem taken_mono {m n : Nat} (h : m ≤ n) : taken d m ⊆ taken d n := by
  induction h with
  | refl => exact fun _ h => h
  | step _ ih => exact fun x hx => Finset.mem_union_left _ (ih hx)

theorem card_taken_ge {n : Nat} (hne : taken d (n + 1) ≠ Finset.univ) :
    (taken d 1).card + n ≤ (taken d (n + 1)).card := by
  induction n with
  | zero => simp
  | succ n ih =>
    have hne' : taken d (n + 1) ≠ Finset.univ := fun h => hne (Finset.eq_univ_iff_forall.mpr fun k =>
      Finset.mem_union_left _ (h ▸ Finset.mem_univ k))
    have := ih hne'
    have := card_taken_lt d hd hne'
    omega

/-- If `n + 1 < N` such rounds take `n + 1` positions, they take the positions of rank at most `n`. -/
theorem mem_taken_iff {n : Nat} (hn : n + 1 < N) (hc : (taken d (n + 1)).card = n + 1) (j : Fin N) :
    j ∈ taken d (n + 1) ↔ rank d j < n + 1 := by
  have hne : taken d (n + 1) ≠ Finset.univ := by
    intro h
    rw [h, Finset.card_univ, Fintype.card_fin] at hc
    omega
  have hsub : taken d (n + 1) ⊆ Finset.univ.filter fun j => rank d j < n + 1 := by
    intro j hj
    simp only [Finset.mem_filter, Finset.mem_univ, true_and]
    rw [← hc]
    refine Finset.card_lt_card ⟨fun i hi => taken_down d hd hne hj (nearer_le d ((mem_before d).mp hi)), fun hs => ?_⟩
    exact nearer_irrefl d j ((mem_before d).mp (hs hj))
  have hcard : (Finset.univ.filter fun j => rank d j < n + 1).card ≤ n + 1 := by
    have h := Finset.card_le_card_of_injOn (s := Finset.univ.filter fun j => rank d j < n + 1)
      (t := Finset.range (n + 1)) (rank d) (fun j hj => by simpa using hj) (fun i _ j _ h => rank_injective d h)
    rwa [Finset.card_range] at h
  have := Finset.eq_of_subset_of_card_le hsub (by rw [hc]; exact hcard)
  rw [this]
  simp

/-- Then the first round took one position, the one of rank 0. -/
theorem least_iff_rank_zero {n : Nat} (hn : n + 1 < N) (hc : (taken d (n + 1)).card = n + 1) (j : Fin N) :
    d j = least d ↔ rank d j = 0 := by
  have hne : taken d (n + 1) ≠ Finset.univ := by
    intro h
    rw [h, Finset.card_univ, Fintype.card_fin] at hc
    omega
  have h1 := card_taken_ge d hd hne
  have h1' : (taken d 1).card ≤ 1 := by omega
  have hmem : ∀ i, i ∈ taken d 1 ↔ d i = least d := by intro i; simp only [taken, Finset.empty_union, Finset.mem_filter, Finset.mem_univ, true_and]; rfl
  obtain ⟨w, hw⟩ := exists_rank d (show 0 < N by omega)
  have hwl : d w = least d := by
    refine (least_eq_of fun i => ?_).symm
    by_cases e : i = w
    · rw [e]
    · have hne0 : rank d i ≠ 0 := fun h => e (rank_injective d (h.trans hw.symm))
      exact nearer_le d (nearer_of_rank_lt d (by omega))
  constructor
  · intro h
    rw [Finset.card_le_one.mp h1' j ((hmem j).mpr h) w ((hmem w).mpr hwl), hw]
  · intro h
    rwa [rank_injective d (h.trans hw.symm)]

end Cert.Knn
-- ==== Proof.Spec.lean ====
/- The mathematics the two programs share, over plain functions: projections, masked softmax, and the equation of its two forms. -/
module

public import Idealize.ShloMosaic.PureOps.Ideal
public import Idealize.ShloMosaic.PureOps.Reduce

@[expose] public section

noncomputable section

namespace Cert.Spec

open Idealize.ShloMosaic

/-- Column `e` of head `h`. -/
def col (h : Fin 16) (e : Fin 64) : Fin 1024 := ⟨h.val * 64 + e.val, by omega⟩

theorem exists_col (c : Fin 1024) : ∃ h e, c = col h e :=
  ⟨⟨c.val / 64, by omega⟩, ⟨c.val % 64, by omega⟩, Fin.ext (by show c.val = c.val / 64 * 64 + c.val % 64; omega)⟩

/-- The value is a real number. -/
def Real (a : EReal) : Prop := ∃ r : ℝ, a = (r : EReal)

theorem real_of_ne {a : EReal} (h : a ≠ ⊤) (h' : a ≠ ⊥) : Real a := ⟨a.toReal, (EReal.coe_toReal h h').symm⟩

theorem Real.ne_top {a : EReal} (h : Real a) : a ≠ ⊤ := by obtain ⟨r, rfl⟩ := h; exact EReal.coe_ne_top r

theorem Real.ne_bot {a : EReal} (h : Real a) : a ≠ ⊥ := by obtain ⟨r, rfl⟩ := h; exact EReal.coe_ne_bot r

theorem Real.mul {a b : EReal} (ha : Real a) (hb : Real b) : Real (a * b) := by
  obtain ⟨r, rfl⟩ := ha; obtain ⟨s, rfl⟩ := hb; exact ⟨r * s, (EReal.coe_mul r s).symm⟩

theorem Real.add {a b : EReal} (ha : Real a) (hb : Real b) : Real (a + b) := by
  obtain ⟨r, rfl⟩ := ha; obtain ⟨s, rfl⟩ := hb; exact ⟨r + s, (EReal.coe_add r s).symm⟩

theorem Real.sub {a b : EReal} (ha : Real a) (hb : Real b) : Real (a - b) := by
  obtain ⟨r, rfl⟩ := ha; obtain ⟨s, rfl⟩ := hb; exact ⟨r - s, (EReal.coe_sub r s).symm⟩

theorem sum_coe {ι : Type} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

theorem Real.sum {ι : Type} {t : Finset ι} {f : ι → EReal} (h : ∀ i, Real (f i)) : Real (∑ i ∈ t, f i) := by
  choose r hr using h
  exact ⟨∑ i ∈ t, r i, by rw [← sum_coe]; exact Finset.sum_congr rfl fun i _ => hr i⟩

/-- A nonnegative real distributes over a sum of extended reals. -/
theorem coe_mul_sum {ι : Type} (t : Finset ι) (f : ι → EReal) {c : ℝ} (hc : 0 ≤ c) :
    ∑ i ∈ t, (c : EReal) * f i = (c : EReal) * ∑ i ∈ t, f i := by
  classical
  induction t using Finset.induction_on with
  | empty => simp
  | insert a t ha ih =>
    rw [Finset.sum_insert ha, Finset.sum_insert ha, ih,
      EReal.left_distrib_of_nonneg_of_ne_top (EReal.coe_nonneg.mpr hc) (EReal.coe_ne_top c)]

/-- Row `p` of `x`, column `c` of the product with the transpose of `w`. -/
def proj (x : Fin 2048 → Fin 1024 → EReal) (w : Fin 1024 → Fin 1024 → EReal) (p : Fin 2048) (c : Fin 1024) : EReal :=
  ∑ k : Fin 1024, x p k * w c k

theorem proj_real {x : Fin 2048 → Fin 1024 → EReal} {w : Fin 1024 → Fin 1024 → EReal} (hx : ∀ p k, Real (x p k))
    (hw : ∀ c k, Real (w c k)) (p : Fin 2048) (c : Fin 1024) : Real (proj x w p c) :=
  Real.sum fun k => (hx p k).mul (hw c k)

section Softmax

variable {n : Nat} (N : Fin n → Prop) (s : Fin n → ℝ)

open scoped Classical in
/-- The weight of entry `j` with the scores shifted down by `m`. -/
def wt (m : ℝ) (j : Fin n) : ℝ := if N j then Real.exp (s j - m) else 0

theorem wt_shift (m : ℝ) (j : Fin n) : wt N s m j = Real.exp (-m) * wt N s 0 j := by
  unfold wt
  split
  · rw [← Real.exp_add]; congr 1; ring
  · rw [mul_zero]

theorem wt_sum_pos (h : ∃ j, N j) (m : ℝ) : 0 < ∑ j, wt N s m j := by
  obtain ⟨j, hj⟩ := h
  refine Finset.sum_pos' (fun i _ => ?_) ⟨j, Finset.mem_univ j, ?_⟩
  · unfold wt; split
    · exact (Real.exp_pos _).le
    · exact le_refl 0
  · unfold wt; rw [if_pos hj]; exact Real.exp_pos _

theorem wt_nonneg (m : ℝ) (j : Fin n) : 0 ≤ wt N s m j := by
  unfold wt; split
  · exact (Real.exp_pos _).le
  · exact le_refl 0

/-- A weighted mean does not depend on the shift, nor on dividing before or after the weighted sum. -/
theorem softmax_eq (v : Fin n → EReal) (h : ∃ j, N j) (m : ℝ) :
    Ideal.div (∑ j, (wt N s 0 j : EReal) * v j) (∑ j, (wt N s 0 j : EReal))
      = ∑ j, Ideal.div (wt N s m j : EReal) (∑ i, (wt N s m i : EReal)) * v j := by
  have hp := wt_sum_pos N s h 0
  have hq := wt_sum_pos N s h m
  rw [sum_coe, sum_coe, Ideal.div_coe hp.ne']
  have hw : ∀ j, Ideal.div (wt N s m j : EReal) ((∑ i, wt N s m i : ℝ) : EReal) * v j
      = ((1 / ∑ i, wt N s 0 i : ℝ) : EReal) * ((wt N s 0 j : EReal) * v j) := fun j => by
    rw [Ideal.div_coe hq.ne', ← EReal.coe_mul, ← mul_assoc, ← EReal.coe_mul]
    congr 2
    have e : ∑ i, wt N s m i = Real.exp (-m) * ∑ i, wt N s 0 i := by
      rw [Finset.mul_sum]; exact Finset.sum_congr rfl fun i _ => wt_shift N s m i
    rw [e, wt_shift]
    have := (Real.exp_pos (-m)).ne'
    field_simp
  rw [Finset.sum_congr rfl fun j _ => hw j, coe_mul_sum _ _ (one_div_pos.mpr hp).le, mul_comm]

/-- The largest of finitely many scores, some of them masked by minus infinity but not all, is a real number. -/
theorem fold_max_real (f : Fin n → EReal) (hf : ∀ j, N j → Real (f j)) (hn : ∀ j, ¬ N j → f j = ⊥) (h : ∃ j, N j) :
    Real ((Finset.univ : Finset (Fin n)).fold max ⊥ f) := by
  obtain ⟨j, hj⟩ := h
  have hle : f j ≤ (Finset.univ : Finset (Fin n)).fold max ⊥ f :=
    (Finset.le_fold_max (f j)).mpr (Or.inr ⟨j, Finset.mem_univ j, le_refl _⟩)
  refine real_of_ne (fun ht => ?_) (fun hb => ?_)
  · rcases (Finset.le_fold_max (⊤ : EReal)).mp ht.ge with hc | ⟨i, -, hi⟩
    · exact absurd hc (by simp)
    · by_cases hN : N i
      · exact (hf i hN).ne_top (top_le_iff.mp hi)
      · rw [hn i hN] at hi; exact absurd hi (by simp)
  · rw [hb] at hle
    exact (hf j hj).ne_bot (le_bot_iff.mp hle)

end Softmax

end Cert.Spec
-- ==== Proof.KernelMask.lean ====
/- The mask the first region of the idealized kernel stores: zero at a query's sixteen nearest points after the nearest, minus infinity elsewhere. -/
module

public import proofs.«01_k».proof.Proof.KernelRounds
public import proofs.«01_k».proof.Proof.Knn
public import Idealize.ShloMosaic.Lib.Pipeline.Value
public import Idealize.ShloMosaic.Lib.ValueIdx
public import Idealize.ShloMosaic.Lib.WordCmp
public import Idealize.ShloMosaic.Lib.KernelVsHost
public import proofs.«01_k».proof.Proof.Spec

@[expose] public section

set_option maxRecDepth 16384

noncomputable section

namespace Cert.KernelIdeal.Body

open Cert.KernelIdeal.Gen Idealize.ShloMosaic Idealize.ShloMosaic.TcCoe Idealize.ShloMosaic.ValueIdx Idealize.ShloMosaic.WordCmp

/-- A row of a block. -/
def row (x : FVec Ideal S256x2048 .f32) (p : Fin 256) (j : Fin 2048) : EReal := x (ix2 p j)

/-- A number for each row, repeated along the rows. -/
theorem spread {α : Type} (y : S256.Idx → α) (p : Fin 256) (j : Fin 2048) :
    broadcastTo S256x2048 (shapeCast S256x1 y shapeCasts_S256_S256x1) broadcasts_S256x1_S256x2048 (ix2 p j) = y (ix1 p) := by
  refine Eq.trans (broadcastTo_apply (t := S256x2048) (s := S256x1) _ _ (ix2 p j) (ix2 p (0 : Fin 1)) fun a => ?_) ?_
  · match a with
    | ⟨0, _⟩ => rfl
    | ⟨1, _⟩ => rfl
  · refine shapeCast_apply (s := S256) (t := S256x1) y _ (ix2 p (0 : Fin 1)) (ix1 p) ?_
    rw [Shape.rowMajor_val_two]
    simp [Shape.rowMajor_val_one]

theorem lift_row (p : Fin 256) (k : Fin 2048) :
    reduces_S256x2048_S256.lift (ix1 p : S256.Idx) k = ix2 p k := by
  funext a
  match a with
  | ⟨0, _⟩ => rfl
  | ⟨1, _⟩ => rfl

theorem ofBits_inf : (FloatOps.ofBits (F := Ideal) .f32 0x7F800000#32 : EReal) = ⊤ := by
  show Ideal.ofBits .f32 0x7F800000#32 = ⊤
  simp [Ideal.ofBits, Ideal.ieee, -EReal.coe_mul]

theorem rowMin_apply (x : FVec Ideal S256x2048 .f32) (p : Fin 256) (j : Fin 2048) :
    rowMin x (ix2 p j) = Knn.least (row x p) := by
  unfold rowMin
  rw [spread]
  refine Eq.trans (multiReduction_minimumf_eq_fold (s := S256x2048) (t := S256) _ _ _ _ _ _) ?_
  refine Eq.trans (Shape.Reduces.fold_filter_drop_single _ _ _ _ _) ?_
  rw [ofBits_inf]
  show Finset.univ.fold min ⊤ (fun k : Fin 2048 => x (reduces_S256x2048_S256.lift (ix1 p : S256.Idx) k)) = _
  simp only [lift_row]
  rfl

theorem hit_apply (x : FVec Ideal S256x2048 .f32) (p : Fin 256) (j : Fin 2048) :
    hit x (ix2 p j) = 1#1 ↔ row x p j = Knn.least (row x p) := by
  unfold hit
  rw [cmpf_apply, rowMin_apply]
  show BitVec.ofBool (decide (row x p j = _)) = 1#1 ↔ _
  rw [ofBool_decide_eq_one_iff]

/-- What the fold of the signed minimum gives: a lower bound that is the start or one of the words. -/
theorem fold_minsi {ι : Type} [DecidableEq ι] (s : Finset ι) (init : BitVec 32) (f : ι → BitVec 32) :
    (∀ i ∈ s, (s.fold IntOp.minsi init f).toInt ≤ (f i).toInt) ∧ (s.fold IntOp.minsi init f).toInt ≤ init.toInt
      ∧ (s.fold IntOp.minsi init f = init ∨ ∃ i ∈ s, s.fold IntOp.minsi init f = f i) := by
  induction s using Finset.induction_on with
  | empty => simp
  | insert a s ha ih =>
    obtain ⟨h1, h2, h3⟩ := ih
    rw [Finset.fold_insert ha]
    generalize s.fold IntOp.minsi init f = w at h1 h2 h3
    have hm : IntOp.minsi (f a) w = if (f a).toInt < w.toInt then f a else w := by
      simp [IntOp.minsi, BitVec.slt_eq_decide]
    rw [hm]
    split
    · next h =>
      refine ⟨fun i hi => ?_, by omega, Or.inr ⟨a, Finset.mem_insert_self _ _, rfl⟩⟩
      rcases Finset.mem_insert.mp hi with rfl | hi
      · exact le_refl _
      · have := h1 i hi; omega
    · next h =>
      refine ⟨fun i hi => ?_, h2, h3.imp id fun ⟨i, hi, e⟩ => ⟨i, Finset.mem_insert_of_mem hi, e⟩⟩
      rcases Finset.mem_insert.mp hi with rfl | hi
      · omega
      · exact h1 i hi

theorem exists_isFirst (a : Fin 2048 → EReal) : ∃ j, Knn.IsFirst a j := by
  obtain ⟨m, hm, hl⟩ := (wellFounded_lt (α := Fin 2048)).has_min {j | a j = Knn.least a} (Knn.exists_least a (by decide))
  exact ⟨m, hm, fun i hi h => hl i h hi⟩

theorem isFirst_unique {a : Fin 2048 → EReal} {i j : Fin 2048} (hi : Knn.IsFirst a i) (hj : Knn.IsFirst a j) : i = j := by
  rcases lt_trichotomy i j with h | h | h
  · exact absurd hi.1 (hj.2 i h)
  · exact h
  · exact absurd hj.1 (hi.2 j h)

theorem toInt_lane (j : Fin 2048) : (BitVec.ofNat 32 j.val).toInt = (j.val : Int) := by
  have := j.isLt
  rw [BitVec.toInt_eq_toNat_of_lt] <;> simp only [BitVec.toNat_ofNat] <;> omega

theorem lowest_lane (a : Fin 2048 → EReal) (f : Fin 2048 → BitVec 32)
    (hf : ∀ j, f j = if a j = Knn.least a then BitVec.ofNat 32 j.val else 2048#32) {j : Fin 2048} (hj : Knn.IsFirst a j) :
    Finset.univ.fold IntOp.minsi 2147483647#32 f = BitVec.ofNat 32 j.val := by
  obtain ⟨h1, h2, h3⟩ := fold_minsi Finset.univ 2147483647#32 f
  have hle := h1 j (Finset.mem_univ j)
  rw [hf j, if_pos hj.1, toInt_lane] at hle
  have hjl := j.isLt
  rcases h3 with h3 | ⟨i, -, h3⟩
  · rw [h3] at hle
    have : (2147483647#32 : BitVec 32).toInt = 2147483647 := by decide
    omega
  · rw [h3, hf i] at hle ⊢
    by_cases hi : a i = Knn.least a
    · rw [if_pos hi] at hle ⊢
      rw [toInt_lane] at hle
      have hnot : ¬ i < j := fun h => hj.2 i h hi
      have : i = j := by
        apply Fin.ext
        have : ¬ i.val < j.val := hnot
        omega
      rw [this]
    · rw [if_neg hi] at hle
      have : (2048#32 : BitVec 32).toInt = 2048 := by decide
      omega

theorem lowLane_apply (x : FVec Ideal S256x2048 .f32) (p : Fin 256) (j k : Fin 2048) (hk : Knn.IsFirst (row x p) k) :
    lowLane (hit x) (ix2 p j) = BitVec.ofNat 32 k.val := by
  unfold lowLane
  rw [spread]
  refine Eq.trans (multiReductionI_eq_fold (s := S256x2048) (t := S256) _ _ _ _ _ _) ?_
  refine Eq.trans (Shape.Reduces.fold_filter_drop_single _ _ _ _ _) ?_
  refine lowest_lane (row x p) _ (fun i => ?_) hk
  show (if hit x (reduces_S256x2048_S256.lift (ix1 p : S256.Idx) i) = 1#1 then lanes (reduces_S256x2048_S256.lift (ix1 p : S256.Idx) i) else 2048#32) = _
  rw [lift_row, if_congr (hit_apply x p i) rfl rfl]
  congr 1
  exact iota_single_apply _ _ _ _ _ _

theorem first_apply (x : FVec Ideal S256x2048 .f32) (p : Fin 256) (j : Fin 2048) :
    first x (ix2 p j) = 1#1 ↔ Knn.IsFirst (row x p) j := by
  obtain ⟨k, hk⟩ := exists_isFirst (row x p)
  have hl : lanes (ix2 p j) = BitVec.ofNat 32 j.val := iota_single_apply _ _ _ _ _ _
  have e : first x (ix2 p j) = BitVec.ofBool (BitVec.ofNat 32 j.val == BitVec.ofNat 32 k.val) := by
    rw [← lowLane_apply x p j k hk, ← hl]; rfl
  rw [e]
  constructor
  · intro h
    have h' : BitVec.ofNat 32 j.val = BitVec.ofNat 32 k.val := by
      by_contra hn
      rw [beq_false_of_ne hn] at h
      exact absurd h (by decide)
    have := congrArg BitVec.toInt h'
    rw [toInt_lane, toInt_lane] at this
    have : j = k := Fin.ext (by omega)
    rwa [this]
  · intro h
    rw [isFirst_unique h hk, beq_self_eq_true]
    rfl

theorem kill_row (s : IVec S256x2048 1) (x : FVec Ideal S256x2048 .f32) (p : Fin 256) (q : Fin 2048 → Prop)
    (hq : ∀ j, s (ix2 p j) = 1#1 ↔ q j) : row (kill s x) p = Knn.drop q (row x p) := by
  funext j
  show (if s (ix2 p j) = 1#1 then FloatOps.ofBits (F := Ideal) .f32 0x7F800000#32 else row x p j) = _
  by_cases h : q j
  · rw [Knn.drop_pos h, if_pos ((hq j).mpr h), ofBits_inf]
  · rw [Knn.drop_neg h, if_neg fun e => h ((hq j).mp e)]

theorem row_after (d : FVec Ideal S256x2048 .f32) (p : Fin 256) : ∀ n, row (after d n) p = Knn.rest (row d p) n
  | 0 => rfl
  | n + 1 => by
    show row (kill (first (after d n)) (after d n)) p = _
    rw [kill_row _ _ p _ (first_apply (after d n) p), row_after d p n]
    rfl

theorem row_wiped (d : FVec Ideal S256x2048 .f32) (p : Fin 256) : ∀ n, row (wiped d n) p = Knn.left (row d p) n
  | 0 => rfl
  | n + 1 => by
    show row (kill (hit (wiped d n)) (wiped d n)) p = _
    rw [kill_row _ _ p _ (hit_apply (wiped d n) p), row_wiped d p n]
    rfl

theorem ori_one (a b : BitVec 1) : a ||| b = 1#1 ↔ a = 1#1 ∨ b = 1#1 := by
  revert a b; decide
theorem andi_one (a b : BitVec 1) : a &&& b = 1#1 ↔ a = 1#1 ∧ b = 1#1 := by
  revert a b; decide
theorem xori_one (a : BitVec 1) : a ^^^ 1#1 = 1#1 ↔ ¬ a = 1#1 := by
  revert a; decide

theorem took_apply (d : FVec Ideal S256x2048 .f32) (p : Fin 256) (j : Fin 2048) :
    ∀ n, took d n (ix2 p j) = 1#1 ↔ j ∈ Knn.taken (row d p) n
  | 0 => by
    show (0#1 : BitVec 1) = 1#1 ↔ j ∈ (∅ : Finset (Fin 2048))
    simp
  | n + 1 => by
    show took d n (ix2 p j) ||| hit (wiped d n) (ix2 p j) = 1#1 ↔ _
    rw [ori_one, took_apply d p j n, hit_apply, row_wiped]
    simp only [Knn.taken, Finset.mem_union, Finset.mem_filter, Finset.mem_univ, true_and]

theorem ofBits_nought : (FloatOps.ofBits (F := Ideal) .f32 0x00000000#32 : EReal) = 0 := by
  show Ideal.ofBits .f32 0x00000000#32 = 0
  simp [Ideal.ofBits, Ideal.ieee, -EReal.coe_mul]

theorem mask_name : (Named.named (F := Ideal) (φ := .f32) κ "mask" 0xCE6E6B28#32 : EReal) = ⊥ :=
  IdealRules.named_const.ideal_named_scalar _ _ _ _ rfl

theorem mark_pos (s : IVec S256x2048 1) (x : FVec Ideal S256x2048 .f32) (i : S256x2048.Idx) (h : s i = 1#1) : (mark s x i : EReal) = 0 := by
  show (if s i = 1#1 then FloatOps.ofBits (F := Ideal) .f32 0x00000000#32 else x i) = _
  rw [if_pos h, ofBits_nought]
theorem mark_neg (s : IVec S256x2048 1) (x : FVec Ideal S256x2048 .f32) (i : S256x2048.Idx) (h : ¬ s i = 1#1) : mark s x i = x i := by
  show (if s i = 1#1 then FloatOps.ofBits (F := Ideal) .f32 0x00000000#32 else x i) = _
  rw [if_neg h]

section
variable (d : FVec Ideal S256x2048 .f32) (p : Fin 256) (hd : ∀ j, row d p j ≠ ⊤)
include hd

theorem first_after (j : Fin 2048) {n : Nat} (hn : n < 2048) :
    first (after d n) (ix2 p j) = 1#1 ↔ Knn.rank (row d p) j = n := by
  rw [first_apply, row_after, Knn.isFirst_rest _ hd hn]

theorem chosen_in (j : Fin 2048) : ∀ n, n < 2047 → 1 ≤ Knn.rank (row d p) j → Knn.rank (row d p) j ≤ n → (chosen d n (ix2 p j) : EReal) = 0
  | 0, _, h1, h2 => by omega
  | n + 1, hn, h1, h2 => by
    show (mark (first (after d (n + 1))) (chosen d n) (ix2 p j) : EReal) = 0
    by_cases h : Knn.rank (row d p) j = n + 1
    · exact mark_pos _ _ _ ((first_after d p hd j (by omega)).mpr h)
    · rw [mark_neg _ _ _ fun e => h ((first_after d p hd j (by omega)).mp e)]
      exact chosen_in j n (by omega) h1 (by omega)

theorem chosen_out (j : Fin 2048) : ∀ n, n < 2047 → ¬ (1 ≤ Knn.rank (row d p) j ∧ Knn.rank (row d p) j ≤ n) → (chosen d n (ix2 p j) : EReal) = ⊥
  | 0, _, _ => mask_name
  | n + 1, hn, h => by
    show (mark (first (after d (n + 1))) (chosen d n) (ix2 p j) : EReal) = ⊥
    rw [mark_neg _ _ _ fun e => h (by have := (first_after d p hd j (by omega)).mp e; omega)]
    exact chosen_out j n (by omega) (by omega)
end

/-! ## The count of the taken entries -/

theorem counts_apply (d : FVec Ideal S256x2048 .f32) (p : Fin 256) (n : Nat) :
    (counts (F := Ideal) (took d n) (ix1 p) : EReal) = (((Knn.taken (row d p) n).card : ℝ) : EReal) := by
  unfold counts
  refine Eq.trans (Ideal.multiReduction_add_single (s := S256x2048) (t := S256) _ _ _ _ _ _) ?_
  have e : ∀ k : Fin 2048, sitofp (F := Ideal) .f32 (extui 32 (took d n) natLt_1_32) (reduces_S256x2048_S256.lift (ix1 p : S256.Idx) k)
      = (((if k ∈ Knn.taken (row d p) n then 1 else 0 : ℝ)) : EReal) := by
    intro k
    rw [lift_row]
    show ((((took d n (ix2 p k)).setWidth 32).toInt : ℝ) : EReal) = _
    by_cases h : k ∈ Knn.taken (row d p) n
    · rw [if_pos h, (took_apply d p k n).mpr h]
      have : ((1#1 : BitVec 1).setWidth 32).toInt = 1 := by decide
      rw [this]; norm_num
    · rw [if_neg h]
      have hz : took d n (ix2 p k) = 0#1 := by
        have := mt (took_apply d p k n).mp h
        revert this
        generalize took d n (ix2 p k) = b
        revert b; decide
      rw [hz]
      have : ((0#1 : BitVec 1).setWidth 32).toInt = 0 := by decide
      rw [this]; norm_num
  refine Eq.trans (Finset.sum_congr rfl fun k _ => e k) ?_
  rw [Spec.sum_coe]
  refine congrArg _ ?_
  show (∑ k : Fin 2048, if k ∈ Knn.taken (row d p) n then (1 : ℝ) else 0) = _
  rw [Finset.sum_ite_mem, Finset.univ_inter, Finset.sum_const, nsmul_eq_mul, mul_one]

theorem ofBits_seventeen : (FloatOps.ofBits (F := Ideal) .f32 0x41880000#32 : EReal) = ((17 : ℝ) : EReal) := by
  show Ideal.ofBits .f32 0x41880000#32 = _
  simp [Ideal.ofBits, Ideal.ieee, -EReal.coe_mul]; norm_num

theorem good_pos (c : FVec Ideal S256 .f32) (p : Fin 256) (h : (0 : EReal) < good c (ix1 p)) : (c (ix1 p) : EReal) = ((17 : ℝ) : EReal) := by
  by_contra hn
  have e : good c (ix1 p) = if BitVec.ofBool (decide ((c (ix1 p) : EReal) = FloatOps.ofBits (F := Ideal) .f32 0x41880000#32)) = 1#1
      then FloatOps.ofBits (F := Ideal) .f32 0x3F800000#32 else FloatOps.ofBits (F := Ideal) .f32 0x00000000#32 := rfl
  rw [e, ofBits_seventeen, if_neg (by rw [ofBool_decide_eq_one_iff]; exact hn), ofBits_nought] at h
  exact lt_irrefl _ h

theorem lift_one (p : Fin 256) : reduces_S1x256_S1.lift (ix1 (0 : Fin 1) : S1.Idx) p = ix2 0 p := by
  funext a
  match a with
  | ⟨0, _⟩ => rfl
  | ⟨1, _⟩ => rfl

theorem minAll_le (g : FVec Ideal S256 .f32) (p : Fin 256) : (minAll g : EReal) ≤ g (ix1 p) := by
  have h1 : minAll g = multiReduction .minimumf [1] S1 (shapeCast S1x256 g shapeCasts_S256_S1x256) 0x7F800000#32 reduces_S1x256_S1 (.inl rfl) rfl (ix1 (0 : Fin 1)) := by
    unfold minAll extractAt
    refine shapeCast_apply (s := S1) (t := S1x1) _ _ _ (ix1 (0 : Fin 1)) ?_
    rw [Shape.rowMajor_val_two]
    simp [Shape.rowMajor_val_one]
  rw [h1]
  refine le_of_eq_of_le (multiReduction_minimumf_eq_fold (s := S1x256) (t := S1) _ _ _ _ _ _) ?_
  refine le_of_eq_of_le (Shape.Reduces.fold_filter_drop_single _ _ _ _ _) ?_
  show Finset.univ.fold min _ (fun k : Fin 256 => (shapeCast S1x256 g shapeCasts_S256_S1x256) (reduces_S1x256_S1.lift (ix1 (0 : Fin 1) : S1.Idx) k)) ≤ _
  refine (Finset.fold_min_le _).mpr (Or.inr ⟨p, Finset.mem_univ p, le_of_eq ?_⟩)
  rw [lift_one]
  refine shapeCast_apply (s := S256) (t := S1x256) g _ (ix2 (0 : Fin 1) p) (ix1 p) ?_
  rw [Shape.rowMajor_val_two, Shape.rowMajor_val_one]
  show p.val = 0 * 256 + p.val
  omega

/-- The test for the exact rounds, where the smallest of the marks is not positive. -/
theorem slow_of_le (z : FVec Ideal S1 .f32) (i : S1.Idx) (h : ¬ (0 : EReal) < z i) :
    Scalar.cmpi .ne (Scalar.extui (Scalar.xori (Scalar.cmpf .ogt (z i) (Scalar.ofBits (F := Ideal) .f32 0x00000000#32)) 1#1) : BitVec 32) 0#32 = 1#1 := by
  have e : Scalar.cmpf .ogt (z i) (Scalar.ofBits (F := Ideal) .f32 0x00000000#32)
      = BitVec.ofBool (decide ((FloatOps.ofBits (F := Ideal) .f32 0x00000000#32 : EReal) < z i)) := rfl
  rw [e, ofBits_nought, decide_eq_false h]
  decide

section
variable (x2 : Vec Ideal S256x3 .f32) (x3 : Vec Ideal S3x2048 .f32)

/-- Where the exact rounds are not asked for, every row took seventeen entries. -/
theorem card_of_fast (h : ¬ slowWord x2 x3 = 1#1) (p : Fin 256) : (Knn.taken (row (dist x2 x3) p) 17).card = 17 := by
  have hg : (0 : EReal) < minAll (good (counts (F := Ideal) (took (dist x2 x3) 17))) := by
    by_contra hn
    refine h ?_
    rw [slowWord_eq]
    exact slow_of_le (fun _ => minAll (good (counts (F := Ideal) (took (dist x2 x3) 17)))) (ix1 (0 : Fin 1)) hn
  have hc := good_pos _ p (hg.trans_le (minAll_le _ p))
  rw [counts_apply] at hc
  have := EReal.coe_eq_coe_iff.mp hc
  exact_mod_cast this

variable (hd : ∀ p j, row (dist x2 x3) p j ≠ ⊤)
include hd

omit hd in
theorem truncf_same (x : FVec Ideal S256x2048 .f32) (i : S256x2048.Idx) : (truncf .bf16 x bitsLt_bf16_f32 i : EReal) = x i := rfl

theorem slowMask_in (p : Fin 256) (j : Fin 2048) (h : 1 ≤ Knn.rank (row (dist x2 x3) p) j ∧ Knn.rank (row (dist x2 x3) p) j ≤ 16) :
    (slowMask (dist x2 x3) (ix2 p j) : EReal) = 0 := by
  rw [slowMask_eq, truncf_same]
  exact chosen_in _ p (hd p) j 16 (by omega) h.1 h.2
theorem slowMask_out (p : Fin 256) (j : Fin 2048) (h : ¬ (1 ≤ Knn.rank (row (dist x2 x3) p) j ∧ Knn.rank (row (dist x2 x3) p) j ≤ 16)) :
    (slowMask (dist x2 x3) (ix2 p j) : EReal) = ⊥ := by
  rw [slowMask_eq, truncf_same]
  exact chosen_out _ p (hd p) j 16 (by omega) h

theorem fast_iff (h : ¬ slowWord x2 x3 = 1#1) (p : Fin 256) (j : Fin 2048) :
    (andi (took (dist x2 x3) 17) (xori (hit (dist x2 x3)) (constantI S256x2048 1 1#1))) (ix2 p j) = 1#1
      ↔ 1 ≤ Knn.rank (row (dist x2 x3) p) j ∧ Knn.rank (row (dist x2 x3) p) j ≤ 16 := by
  have hc := card_of_fast x2 x3 h p
  show took (dist x2 x3) 17 (ix2 p j) &&& (hit (dist x2 x3) (ix2 p j) ^^^ 1#1) = 1#1 ↔ _
  rw [andi_one, xori_one, took_apply, hit_apply, Knn.mem_taken_iff (n := 16) _ (hd p) (by omega) hc,
    Knn.least_iff_rank_zero (n := 16) _ (hd p) (by omega) hc]
  omega

theorem fastMask_in (h : ¬ slowWord x2 x3 = 1#1) (p : Fin 256) (j : Fin 2048) (hr : 1 ≤ Knn.rank (row (dist x2 x3) p) j ∧ Knn.rank (row (dist x2 x3) p) j ≤ 16) :
    (fastMask x2 x3 (ix2 p j) : EReal) = 0 := by
  rw [fastMask_eq, truncf_same]
  exact mark_pos _ _ _ ((fast_iff x2 x3 hd h p j).mpr hr)
theorem fastMask_out (h : ¬ slowWord x2 x3 = 1#1) (p : Fin 256) (j : Fin 2048) (hr : ¬ (1 ≤ Knn.rank (row (dist x2 x3) p) j ∧ Knn.rank (row (dist x2 x3) p) j ≤ 16)) :
    (fastMask x2 x3 (ix2 p j) : EReal) = ⊥ := by
  rw [fastMask_eq, truncf_same]
  refine Eq.trans (mark_neg _ _ _ fun e => hr ((fast_iff x2 x3 hd h p j).mp e)) mask_name

theorem out0_8_in (p : Fin 256) (j : Fin 2048) (hr : 1 ≤ Knn.rank (row (dist x2 x3) p) j ∧ Knn.rank (row (dist x2 x3) p) j ≤ 16) :
    (out0_8 x2 x3 (ix2 p j) : EReal) = 0 := by
  unfold out0_8
  split
  · rw [View.canon_cons_unit_zero (by funext a; match a with | ⟨0, _⟩ => rfl | ⟨1, _⟩ => rfl)]
    exact slowMask_in x2 x3 hd p j hr
  · next h =>
    rw [View.canon_cons_unit_zero (by funext a; match a with | ⟨0, _⟩ => rfl | ⟨1, _⟩ => rfl)]
    exact fastMask_in x2 x3 hd h p j hr
theorem out0_8_out (p : Fin 256) (j : Fin 2048) (hr : ¬ (1 ≤ Knn.rank (row (dist x2 x3) p) j ∧ Knn.rank (row (dist x2 x3) p) j ≤ 16)) :
    (out0_8 x2 x3 (ix2 p j) : EReal) = ⊥ := by
  unfold out0_8
  split
  · rw [View.canon_cons_unit_zero (by funext a; match a with | ⟨0, _⟩ => rfl | ⟨1, _⟩ => rfl)]
    exact slowMask_out x2 x3 hd p j hr
  · next h =>
    rw [View.canon_cons_unit_zero (by funext a; match a with | ⟨0, _⟩ => rfl | ⟨1, _⟩ => rfl)]
    exact fastMask_out x2 x3 hd h p j hr
end

end Cert.KernelIdeal.Body
-- ==== Proof.KernelLines.lean ====
/- What the first region of the idealized kernel leaves in the windows of queries, keys, values and mean keys, entry by entry, and the distances it compares. -/
module

public import proofs.«01_k».proof.Proof.KernelMask

@[expose] public section

set_option maxRecDepth 16384

noncomputable section

namespace Cert.KernelIdeal.Body

open Cert.KernelIdeal.Gen Idealize.ShloMosaic Idealize.ShloMosaic.TcCoe Idealize.ShloMosaic.ValueIdx Idealize.ShloMosaic.WordCmp

abbrev dProj := dot_S256x1024_S1024x3072_S256x3072_1_0_0_1_n_n

theorem lhs_proj_0 (i : S256x3072.Idx) (q : dProj.contr.Idx) : (dProj.lhsIdx i q 0).val = (i 0).val := by
  unfold DotDims.lhsIdx
  rw [dif_neg (show ¬(0 : Fin S256x1024.rank) ∈ dProj.lhsBatch by decide), dif_pos (show (0 : Fin S256x1024.rank) ∈ dProj.lhsNonContracting by decide)]
  rfl
theorem rhs_proj_1 (i : S256x3072.Idx) (q : dProj.contr.Idx) : (dProj.rhsIdx i q 1).val = (i 1).val := by
  unfold DotDims.rhsIdx
  rw [dif_neg (show ¬(1 : Fin S1024x3072.rank) ∈ dProj.rhsBatch by decide), dif_pos (show (1 : Fin S1024x3072.rank) ∈ dProj.rhsNonContracting by decide)]
  rfl

theorem proj_matmul (a : FVec Ideal S256x1024 .bf16) (b : FVec Ideal S1024x3072 .bf16) (p : Fin 256) (c : Fin 3072) :
    (matmul dProj none a b (constant S256x3072 .f32 0x00000000#32) (ix2 p c) : EReal)
      = ∑ k : Fin 1024, (a (ix2 p k) : EReal) * b (ix2 k c) := by
  simp only [matmul]
  rw [Ideal.matmul_apply, ← Equiv.sum_comp (ValueIdx.contrEquiv1 dProj 1024 rfl rfl).symm]
  have hz : (constant (F := Ideal) S256x3072 .f32 0x00000000#32 (ix2 p c) : EReal) = 0 := ofBits_nought
  rw [hz, zero_add]
  refine Finset.sum_congr rfl fun k _ => ?_
  have hk := ValueIdx.contrEquiv1_symm_val dProj 1024 rfl rfl k
  have el : dProj.lhsIdx (ix2 p c) ((ValueIdx.contrEquiv1 dProj 1024 rfl rfl).symm k) = ix2 p k := funext fun x => Fin.ext (by
    match x with
    | ⟨0, _⟩ => exact lhs_proj_0 _ _
    | ⟨1, _⟩ => exact (dProj.lhsIdx_val_of_single rfl _ _).trans hk)
  have er : dProj.rhsIdx (ix2 p c) ((ValueIdx.contrEquiv1 dProj 1024 rfl rfl).symm k) = ix2 k c := funext fun x => Fin.ext (by
    match x with
    | ⟨0, _⟩ => exact (dProj.rhsIdx_val_of_single rfl _ _).trans hk
    | ⟨1, _⟩ => exact rhs_proj_1 _ _)
  rw [el, er]

theorem zero2 : (![0, 0] : Fin 2 → Nat) = fun _ => 0 := by
  funext a; match a with | ⟨0, _⟩ => rfl | ⟨1, _⟩ => rfl

section
variable (x0 : Vec Ideal S256x1024 .bf16) (x1 : Vec Ideal S1024x3072 .bf16)

/-- A row of the first window against a column of the second. -/
def line (p : Fin 256) (c : Fin 3072) : EReal := ∑ k : Fin 1024, (x0 (ix2 p k) : EReal) * x1 (ix2 k c)

theorem pay42_apply (p : Fin 256) (c : Fin 3072) : (k0_pay42 x0 x1 (ix2 p c) : EReal) = line x0 x1 p c := by
  unfold k0_pay42
  rw [proj_matmul]
  refine Finset.sum_congr rfl fun k _ => ?_
  rw [shapeCast_apply (s := S256x1024) (t := S256x1024) x0 _ (ix2 p k) (ix2 p k) rfl,
    shapeCast_apply (s := S1024x3072) (t := S1024x3072) x1 _ (ix2 k c) (ix2 k c) rfl]

theorem ld_x0 : View.ld x0 r0_0 = x0 := View.ld_unit_zero zero2 _ _
theorem ld_x1 : View.ld x1 r0_1 = x1 := View.ld_unit_zero zero2 _ _

/-- Columns of the product, from a given one on. -/
theorem columns {n : Nat} {t : Shape} (off : Nat) (y : FVec Ideal S256x3072 .f32) (h : S256x3072.Slices ![0, off] S256x1024) (p : Fin 256) (c : Fin 1024)
    (hc : off + c.val < 3072) : extractStridedSlice S256x1024 ![0, off] y h (ix2 p c) = y (ix2 p ⟨off + c.val, hc⟩) := by
  refine extractStridedSlice_apply (s := S256x3072) (t := S256x1024) _ y _ (ix2 p c) (ix2 p ⟨off + c.val, hc⟩) fun a => ?_
  match a with
  | ⟨0, _⟩ => show p.val = 0 + p.val; omega
  | ⟨1, _⟩ => rfl

theorem scale_eq : (Scalar.divf (F := Ideal) (φ := .f32) (Scalar.ofBits .f32 0x3F800000#32) (Scalar.sqrt (Scalar.ofBits .f32 0x42800000#32)) : EReal) = ((1 / 8 : ℝ) : EReal) := by
  have h1 : (Scalar.ofBits (F := Ideal) .f32 0x3F800000#32 : EReal) = ((1 : ℝ) : EReal) := by
    show Ideal.ofBits .f32 0x3F800000#32 = _
    simp [Ideal.ofBits, Ideal.ieee, -EReal.coe_mul]; norm_num
  have h2 : (Scalar.ofBits (F := Ideal) .f32 0x42800000#32 : EReal) = ((64 : ℝ) : EReal) := by
    show Ideal.ofBits .f32 0x42800000#32 = _
    simp [Ideal.ofBits, Ideal.ieee, -EReal.coe_mul]; norm_num
  show Ideal.div (Scalar.ofBits (F := Ideal) .f32 0x3F800000#32) (Ideal.sqrt (Scalar.ofBits (F := Ideal) .f32 0x42800000#32)) = _
  rw [h1, h2, Ideal.sqrt_coe, if_neg (by norm_num), show Real.sqrt 64 = 8 by rw [show (64 : ℝ) = 8 ^ 2 by norm_num]; exact Real.sqrt_sq (by norm_num),
    Ideal.div_coe (by norm_num), ← EReal.coe_mul, one_mul]

theorem out0_4_apply (p : Fin 256) (c : Fin 1024) :
    (out0_4 x0 x1 (ix2 p c) : EReal) = line x0 x1 p ⟨c.val, by omega⟩ * ((1 / 8 : ℝ) : EReal) := by
  unfold out0_4
  rw [View.canon_unit_zero zero2, ld_x0, ld_x1]
  show (extractStridedSlice S256x1024 ![0, 0] (k0_pay42 x0 x1) slices_S256x3072_o0_0_S256x1024 (ix2 p c) : EReal)
    * Scalar.divf (F := Ideal) (φ := .f32) (Scalar.ofBits .f32 0x3F800000#32) (Scalar.sqrt (Scalar.ofBits .f32 0x42800000#32)) = _
  rw [scale_eq, columns (n := 0) (t := S256) 0 _ _ p c (by omega), pay42_apply]
  have e : (⟨0 + c.val, by omega⟩ : Fin 3072) = ⟨c.val, by omega⟩ := Fin.ext (Nat.zero_add _)
  rw [e]

theorem pay44_apply (p : Fin 256) (c : Fin 1024) :
    (k0_pay44 x0 x1 (ix2 p c) : EReal) = line x0 x1 p ⟨1024 + c.val, by omega⟩ := by
  unfold k0_pay44
  rw [columns (n := 0) (t := S256) 1024 _ _ p c (by omega), pay42_apply]

theorem out0_5_apply (p : Fin 256) (c : Fin 1024) :
    (out0_5 x0 x1 (ix2 p c) : EReal) = line x0 x1 p ⟨1024 + c.val, by omega⟩ := by
  unfold out0_5
  rw [View.canon_unit_zero zero2, ld_x0, ld_x1]
  exact pay44_apply x0 x1 p c

theorem out0_6_apply (p : Fin 256) (c : Fin 1024) :
    (out0_6 x0 x1 (ix2 p c) : EReal) = line x0 x1 p ⟨2048 + c.val, by omega⟩ := by
  unfold out0_6
  rw [View.canon_unit_zero zero2, ld_x0, ld_x1]
  show (extractStridedSlice S256x1024 ![0, 2048] (k0_pay42 x0 x1) slices_S256x3072_o0_2048_S256x1024 (ix2 p c) : EReal) = _
  rw [columns (n := 0) (t := S256) 2048 _ _ p c (by omega), pay42_apply]

/-- The columns of one head. -/
theorem headCols (h : Fin 16) (off : Nat) (ho : off = h.val * 64) (y : FVec Ideal S256x1024 .f32) (hs : S256x1024.Slices ![0, off] S256x64) (p : Fin 256) (e : Fin 64) :
    (extractStridedSlice S256x64 ![0, off] y hs (ix2 p e) : EReal) = y (ix2 p (Spec.col h e)) := by
  refine extractStridedSlice_apply (s := S256x1024) (t := S256x64) _ y _ (ix2 p e) (ix2 p (Spec.col h e)) fun a => ?_
  match a with
  | ⟨0, _⟩ => show p.val = 0 + p.val; omega
  | ⟨1, _⟩ => show h.val * 64 + e.val = off + e.val; omega

theorem sixteenth : (FloatOps.ofBits (F := Ideal) .f32 0x3D800000#32 : EReal) = ((1 / 16 : ℝ) : EReal) := by
  show Ideal.ofBits .f32 0x3D800000#32 = _
  simp [Ideal.ofBits, Ideal.ieee, -EReal.coe_mul]; norm_num

/-- A sum of sixteen terms, in order. -/
theorem sum_sixteen (f : Fin 16 → EReal) : ∑ h : Fin 16, f h = (((((((((((((((f 0 + f 1) + f 2) + f 3) + f 4) + f 5) + f 6) + f 7) + f 8) + f 9) + f 10) + f 11) + f 12) + f 13) + f 14) + f 15) := by
  simp only [Fin.sum_univ_castSucc, Fin.sum_univ_zero, zero_add]
  rfl

theorem out0_7_apply (p : Fin 256) (e : Fin 64) :
    (out0_7 x0 x1 (ix2 p e) : EReal) = (∑ h : Fin 16, line x0 x1 p ⟨1024 + (Spec.col h e).val, by omega⟩) * ((1 / 16 : ℝ) : EReal) := by
  unfold out0_7
  rw [View.canon_unit_zero zero2, ld_x0, ld_x1]
  simp only [← pay44_apply]
  unfold k0_pay48 k0_pay47
  generalize k0_pay44 x0 x1 = y
  rw [← sixteenth]
  refine congrArg (· * _) ?_
  rw [sum_sixteen]
  show ((((((((((((((((extractStridedSlice S256x64 ![0, 0] y slices_S256x1024_o0_0_S256x64 (ix2 p e) : EReal) + (extractStridedSlice S256x64 ![0, 64] y slices_S256x1024_o0_64_S256x64 (ix2 p e) : EReal)) + (extractStridedSlice S256x64 ![0, 128] y slices_S256x1024_o0_128_S256x64 (ix2 p e) : EReal)) + (extractStridedSlice S256x64 ![0, 192] y slices_S256x1024_o0_192_S256x64 (ix2 p e) : EReal)) + (extractStridedSlice S256x64 ![0, 256] y slices_S256x1024_o0_256_S256x64 (ix2 p e) : EReal)) + (extractStridedSlice S256x64 ![0, 320] y slices_S256x1024_o0_320_S256x64 (ix2 p e) : EReal)) + (extractStridedSlice S256x64 ![0, 384] y slices_S256x1024_o0_384_S256x64 (ix2 p e) : EReal)) + (extractStridedSlice S256x64 ![0, 448] y slices_S256x1024_o0_448_S256x64 (ix2 p e) : EReal)) + (extractStridedSlice S256x64 ![0, 512] y slices_S256x1024_o0_512_S256x64 (ix2 p e) : EReal)) + (extractStridedSlice S256x64 ![0, 576] y slices_S256x1024_o0_576_S256x64 (ix2 p e) : EReal)) + (extractStridedSlice S256x64 ![0, 640] y slices_S256x1024_o0_640_S256x64 (ix2 p e) : EReal)) + (extractStridedSlice S256x64 ![0, 704] y slices_S256x1024_o0_704_S256x64 (ix2 p e) : EReal)) + (extractStridedSlice S256x64 ![0, 768] y slices_S256x1024_o0_768_S256x64 (ix2 p e) : EReal)) + (extractStridedSlice S256x64 ![0, 832] y slices_S256x1024_o0_832_S256x64 (ix2 p e) : EReal)) + (extractStridedSlice S256x64 ![0, 896] y slices_S256x1024_o0_896_S256x64 (ix2 p e) : EReal)) + (extractStridedSlice S256x64 ![0, 960] y slices_S256x1024_o0_960_S256x64 (ix2 p e) : EReal)) = _
  rw [headCols 0 0 rfl, headCols 1 64 rfl, headCols 2 128 rfl, headCols 3 192 rfl, headCols 4 256 rfl, headCols 5 320 rfl, headCols 6 384 rfl, headCols 7 448 rfl, headCols 8 512 rfl, headCols 9 576 rfl, headCols 10 640 rfl, headCols 11 704 rfl, headCols 12 768 rfl, headCols 13 832 rfl, headCols 14 896 rfl, headCols 15 960 rfl]

end

section
variable (x2 : Vec Ideal S256x3 .f32) (x3 : Vec Ideal S3x2048 .f32)

theorem coordCol (a : Fin 3) (hs : S256x3.Slices ![0, a.val] S256x1) (p : Fin 256) (j : Fin 2048) :
    (broadcastTo S256x2048 (extractStridedSlice S256x1 ![0, a.val] (shapeCast S256x3 (View.ld x2 r0_3) shapeCasts_S256x3_S256x3) hs) broadcasts_S256x1_S256x2048 (ix2 p j) : EReal)
      = x2 (ix2 p a) := by
  refine Eq.trans (broadcastTo_apply (t := S256x2048) (s := S256x1) _ _ (ix2 p j) (ix2 p (0 : Fin 1)) fun b => ?_) ?_
  · match b with
    | ⟨0, _⟩ => rfl
    | ⟨1, _⟩ => rfl
  refine Eq.trans (extractStridedSlice_apply (s := S256x3) (t := S256x1) _ _ _ (ix2 p (0 : Fin 1)) (ix2 p a) fun b => ?_) ?_
  · match b with
    | ⟨0, _⟩ => show p.val = 0 + p.val; omega
    | ⟨1, _⟩ => rfl
  rw [View.ld_unit_zero zero2]
  exact shapeCast_apply (s := S256x3) (t := S256x3) x2 _ (ix2 p a) (ix2 p a) rfl

theorem coordRow (a : Fin 3) (inb : ∀ b, (![a.val, 0] : Fin 2 → Nat) b + S1x2048.size b ≤ S3x2048.size b) (p : Fin 256) (j : Fin 2048) :
    (broadcastTo S256x2048 (shapeCast S1x2048 (View.ld x3 (Rect.unit (s := S3x2048) ![a.val, 0] S1x2048.size inb)) shapeCasts_S1x2048_S1x2048) broadcasts_S1x2048_S256x2048 (ix2 p j) : EReal)
      = x3 (ix2 a j) := by
  refine Eq.trans (broadcastTo_apply (t := S256x2048) (s := S1x2048) _ _ (ix2 p j) (ix2 (0 : Fin 1) j) fun b => ?_) ?_
  · match b with
    | ⟨0, _⟩ => rfl
    | ⟨1, _⟩ => rfl
  refine Eq.trans (shapeCast_apply (s := S1x2048) (t := S1x2048) _ _ (ix2 (0 : Fin 1) j) (ix2 (0 : Fin 1) j) rfl) ?_
  refine congrArg x3 (funext fun b => Fin.ext ?_)
  match b with
  | ⟨0, _⟩ => show a.val + 1 * 0 = a.val; omega
  | ⟨1, _⟩ => show 0 + 1 * j.val = j.val; omega

/-- The square of a difference of coordinates. -/
def sq (p : Fin 256) (j : Fin 2048) (a : Fin 3) : EReal :=
  ((x2 (ix2 p a) : EReal) - x3 (ix2 a j)) * ((x2 (ix2 p a) : EReal) - x3 (ix2 a j))

theorem dist_apply (p : Fin 256) (j : Fin 2048) :
    row (dist x2 x3) p j = Ideal.sqrt (sq x2 x3 p j 0 + sq x2 x3 p j 1 + sq x2 x3 p j 2) := by
  unfold sq
  rw [← coordCol x2 0 slices_S256x3_o0_0_S256x1 p j, ← coordCol x2 1 slices_S256x3_o0_1_S256x1 p j, ← coordCol x2 2 slices_S256x3_o0_2_S256x1 p j,
    ← coordRow x3 0 inb_S3x2048_S1x2048_0_0 p j, ← coordRow x3 1 inb_S3x2048_S1x2048_1_0 p j, ← coordRow x3 2 inb_S3x2048_S1x2048_2_0 p j]
  rfl
end

end Cert.KernelIdeal.Body
-- ==== Proof.KernelHeads.lean ====
/- What the second region of the idealized kernel leaves in its output window, entry by entry. -/
module

public import proofs.«01_k».proof.Proof.KernelIdealAttn
public import proofs.«01_k».proof.Proof.KernelLines

@[expose] public section

set_option maxRecDepth 16384

noncomputable section

namespace Cert.KernelIdeal.Body

open Cert.KernelIdeal.Gen Idealize.ShloMosaic Idealize.ShloMosaic.TcCoe Idealize.ShloMosaic.ValueIdx Idealize.ShloMosaic.WordCmp

/-! ## Every head's payload is one function -/

section
variable {F : FTy → Type} [FloatOps F] [Named F]

/-- One head: the bias, the head's queries, keys and values. -/
def head (m : FVec F S256x2048 .f32) (q : Vec F S256x64 .bf16) (k v : Vec F S2048x64 .bf16) : FVec F S256x64 .f32 := k1_pay2 m q k v

variable (m : FVec F S256x2048 .f32) (q : Vec F S256x64 .bf16) (k v : Vec F S2048x64 .bf16)

theorem head14_eq : k1_pay1 (k1_pay27 m q k) (k1_pay28 m q k v) = head m q k v := rfl
theorem head13_eq : k1_pay25 m q k v = head m q k v := rfl
theorem head12_eq : k1_pay24 (k1_pay21 v) (k1_pay22 m q k) (k1_pay23 m q k) = head m q k v := rfl
theorem head11_eq : k1_pay20 m q k v = head m q k v := rfl
theorem head10_eq : k1_pay19 m (k1_pay17 v) (k1_pay18 q k) = head m q k v := rfl
theorem head9_eq : k1_pay16 m q k v = head m q k v := rfl
theorem head8_eq : k1_pay15 m (k1_pay13 q) (k1_pay14 k) v = head m q k v := rfl
theorem head7_eq : k1_pay12 m q k v = head m q k v := rfl
theorem head6_eq : k1_pay11 m (k1_pay10 q) k v = head m q k v := rfl
theorem head5_eq : k1_pay9 m q k v = head m q k v := rfl
theorem head4_eq : k1_pay8 m q k v = head m q k v := rfl
theorem head3_eq : k1_pay7 m q k v = head m q k v := rfl
theorem head2_eq : k1_pay6 m q k v = head m q k v := rfl
theorem head1_eq (b : Vec F S256x2048 .bf16) : k1_pay5 b q k v = head (k1_pay3 b) q k v := rfl
theorem head0_eq (b : Vec F S256x2048 .bf16) : k1_pay4 b q k v = head (k1_pay3 b) q k v := rfl
end

/-! ## The two products -/

abbrev dQK := dot_S256x64_S2048x64_S256x2048_1_1_0_0_n_n
abbrev dPV := dot_S256x2048_S2048x64_S256x64_1_0_0_1_n_n

theorem lhs_qk_0 (i : S256x2048.Idx) (q : dQK.contr.Idx) : (dQK.lhsIdx i q 0).val = (i 0).val := by
  unfold DotDims.lhsIdx
  rw [dif_neg (show ¬(0 : Fin S256x64.rank) ∈ dQK.lhsBatch by decide), dif_pos (show (0 : Fin S256x64.rank) ∈ dQK.lhsNonContracting by decide)]
  rfl
theorem rhs_qk_0 (i : S256x2048.Idx) (q : dQK.contr.Idx) : (dQK.rhsIdx i q 0).val = (i 1).val := by
  unfold DotDims.rhsIdx
  rw [dif_neg (show ¬(0 : Fin S2048x64.rank) ∈ dQK.rhsBatch by decide), dif_pos (show (0 : Fin S2048x64.rank) ∈ dQK.rhsNonContracting by decide)]
  rfl
theorem lhs_pv_0 (i : S256x64.Idx) (q : dPV.contr.Idx) : (dPV.lhsIdx i q 0).val = (i 0).val := by
  unfold DotDims.lhsIdx
  rw [dif_neg (show ¬(0 : Fin S256x2048.rank) ∈ dPV.lhsBatch by decide), dif_pos (show (0 : Fin S256x2048.rank) ∈ dPV.lhsNonContracting by decide)]
  rfl
theorem rhs_pv_1 (i : S256x64.Idx) (q : dPV.contr.Idx) : (dPV.rhsIdx i q 1).val = (i 1).val := by
  unfold DotDims.rhsIdx
  rw [dif_neg (show ¬(1 : Fin S2048x64.rank) ∈ dPV.rhsBatch by decide), dif_pos (show (1 : Fin S2048x64.rank) ∈ dPV.rhsNonContracting by decide)]
  rfl

theorem qk_matmul (a : FVec Ideal S256x64 .bf16) (b : FVec Ideal S2048x64 .bf16) (p : Fin 256) (j : Fin 2048) :
    (matmul dQK none a b (constant S256x2048 .f32 0x00000000#32) (ix2 p j) : EReal)
      = ∑ k : Fin 64, (a (ix2 p k) : EReal) * b (ix2 j k) := by
  simp only [matmul]
  rw [Ideal.matmul_apply, ← Equiv.sum_comp (ValueIdx.contrEquiv1 dQK 64 rfl rfl).symm]
  have hz : (constant (F := Ideal) S256x2048 .f32 0x00000000#32 (ix2 p j) : EReal) = 0 := ofBits_nought
  rw [hz, zero_add]
  refine Finset.sum_congr rfl fun k _ => ?_
  have hk := ValueIdx.contrEquiv1_symm_val dQK 64 rfl rfl k
  have el : dQK.lhsIdx (ix2 p j) ((ValueIdx.contrEquiv1 dQK 64 rfl rfl).symm k) = ix2 p k := funext fun x => Fin.ext (by
    match x with
    | ⟨0, _⟩ => exact lhs_qk_0 _ _
    | ⟨1, _⟩ => exact (dQK.lhsIdx_val_of_single rfl _ _).trans hk)
  have er : dQK.rhsIdx (ix2 p j) ((ValueIdx.contrEquiv1 dQK 64 rfl rfl).symm k) = ix2 j k := funext fun x => Fin.ext (by
    match x with
    | ⟨0, _⟩ => exact rhs_qk_0 _ _
    | ⟨1, _⟩ => exact (dQK.rhsIdx_val_of_single rfl _ _).trans hk)
  rw [el, er]

theorem pv_matmul (a : FVec Ideal S256x2048 .bf16) (b : FVec Ideal S2048x64 .bf16) (p : Fin 256) (e : Fin 64) :
    (matmul dPV none a b (constant S256x64 .f32 0x00000000#32) (ix2 p e) : EReal)
      = ∑ j : Fin 2048, (a (ix2 p j) : EReal) * b (ix2 j e) := by
  simp only [matmul]
  rw [Ideal.matmul_apply, ← Equiv.sum_comp (ValueIdx.contrEquiv1 dPV 2048 rfl rfl).symm]
  have hz : (constant (F := Ideal) S256x64 .f32 0x00000000#32 (ix2 p e) : EReal) = 0 := ofBits_nought
  rw [hz, zero_add]
  refine Finset.sum_congr rfl fun k _ => ?_
  have hk := ValueIdx.contrEquiv1_symm_val dPV 2048 rfl rfl k
  have el : dPV.lhsIdx (ix2 p e) ((ValueIdx.contrEquiv1 dPV 2048 rfl rfl).symm k) = ix2 p k := funext fun x => Fin.ext (by
    match x with
    | ⟨0, _⟩ => exact lhs_pv_0 _ _
    | ⟨1, _⟩ => exact (dPV.lhsIdx_val_of_single rfl _ _).trans hk)
  have er : dPV.rhsIdx (ix2 p e) ((ValueIdx.contrEquiv1 dPV 2048 rfl rfl).symm k) = ix2 k e := funext fun x => Fin.ext (by
    match x with
    | ⟨0, _⟩ => exact (dPV.rhsIdx_val_of_single rfl _ _).trans hk
    | ⟨1, _⟩ => exact rhs_pv_1 _ _)
  rw [el, er]

/-! ## One head, entry by entry -/

/-- The exponential of a biased score. -/
def ex (m : FVec Ideal S256x2048 .f32) (q : Vec Ideal S256x64 .bf16) (k : Vec Ideal S2048x64 .bf16) : FVec Ideal S256x2048 .f32 :=
  exp (addf (matmul dQK none (shapeCast S256x64 q shapeCasts_S256x64_S256x64 : FVec Ideal S256x64 .bf16) (shapeCast S2048x64 k shapeCasts_S2048x64_S2048x64 : FVec Ideal S2048x64 .bf16) (constant S256x2048 .f32 0x00000000#32)) m)

theorem ex_apply (m : FVec Ideal S256x2048 .f32) (q : Vec Ideal S256x64 .bf16) (k : Vec Ideal S2048x64 .bf16) (p : Fin 256) (j : Fin 2048) :
    (ex m q k (ix2 p j) : EReal) = Ideal.exp ((∑ a : Fin 64, (q (ix2 p a) : EReal) * k (ix2 j a)) + m (ix2 p j)) := by
  show Ideal.exp ((matmul dQK none (shapeCast S256x64 q shapeCasts_S256x64_S256x64 : FVec Ideal S256x64 .bf16) (shapeCast S2048x64 k shapeCasts_S2048x64_S2048x64 : FVec Ideal S2048x64 .bf16) (constant S256x2048 .f32 0x00000000#32) (ix2 p j) : EReal) + m (ix2 p j)) = _
  rw [qk_matmul]
  refine congrArg (fun z => Ideal.exp (z + _)) (Finset.sum_congr rfl fun a _ => ?_)
  rw [shapeCast_apply (s := S256x64) (t := S256x64) q _ (ix2 p a) (ix2 p a) rfl,
    shapeCast_apply (s := S2048x64) (t := S2048x64) k _ (ix2 j a) (ix2 j a) rfl]

theorem rowSum (x : FVec Ideal S256x2048 .f32) (p : Fin 256) (e : Fin 64) :
    (broadcastTo S256x64 (shapeCast S256x1 (multiReduction .add [1] S256 x 0x00000000#32 reduces_S256x2048_S256 (.inl rfl) rfl) shapeCasts_S256_S256x1) broadcasts_S256x1_S256x64 (ix2 p e) : EReal)
      = ∑ j : Fin 2048, (x (ix2 p j) : EReal) := by
  refine Eq.trans (broadcastTo_apply (t := S256x64) (s := S256x1) _ _ (ix2 p e) (ix2 p (0 : Fin 1)) fun a => ?_) ?_
  · match a with
    | ⟨0, _⟩ => rfl
    | ⟨1, _⟩ => rfl
  refine Eq.trans (shapeCast_apply (s := S256) (t := S256x1) _ _ (ix2 p (0 : Fin 1)) (ix1 p) ?_) ?_
  · rw [Shape.rowMajor_val_two]
    simp [Shape.rowMajor_val_one]
  refine Eq.trans (Ideal.multiReduction_add_single (s := S256x2048) (t := S256) _ _ _ _ _ _) ?_
  exact Finset.sum_congr rfl fun j _ => congrArg x (lift_row p j)

theorem head_apply (m : FVec Ideal S256x2048 .f32) (q : Vec Ideal S256x64 .bf16) (k v : Vec Ideal S2048x64 .bf16) (p : Fin 256) (e : Fin 64) :
    (head m q k v (ix2 p e) : EReal) = Ideal.div (∑ j : Fin 2048, (ex m q k (ix2 p j) : EReal) * v (ix2 j e)) (∑ j : Fin 2048, (ex m q k (ix2 p j) : EReal)) := by
  rw [← rowSum (ex m q k) p e]
  have e2 : ∑ j : Fin 2048, (ex m q k (ix2 p j) : EReal) * v (ix2 j e)
      = (matmul dPV none (truncf .bf16 (ex m q k) bitsLt_bf16_f32) (shapeCast S2048x64 v shapeCasts_S2048x64_S2048x64 : FVec Ideal S2048x64 .bf16) (constant S256x64 .f32 0x00000000#32) (ix2 p e) : EReal) := by
    rw [pv_matmul]
    refine Finset.sum_congr rfl fun j _ => ?_
    rw [shapeCast_apply (s := S2048x64) (t := S2048x64) v _ (ix2 j e) (ix2 j e) rfl]
    rfl
  rw [e2]
  rfl

/-! ## The sixteen heads side by side -/

section
variable (x0 : Vec Ideal S256x1024 .bf16) (x1 x2 : Vec Ideal S2048x1024 .bf16) (x3 : Vec Ideal S256x2048 .bf16)

/-- The weight, before division, of point `j` for query `p` in head `h`. -/
def weight (p : Fin 256) (h : Fin 16) (j : Fin 2048) : EReal :=
  Ideal.exp ((∑ a : Fin 64, (x0 (ix2 p (Spec.col h a)) : EReal) * x1 (ix2 j (Spec.col h a))) + x3 (ix2 p j))

/-- One entry of the second region's output. -/
def attn (p : Fin 256) (h : Fin 16) (e : Fin 64) : EReal :=
  Ideal.div (∑ j : Fin 2048, weight x0 x1 x3 p h j * x2 (ix2 j (Spec.col h e))) (∑ j : Fin 2048, weight x0 x1 x3 p h j)

/-- The second region's output block. -/
def attnBlock (y : S256x1024.Idx) : EReal :=
  attn x0 x1 x2 x3 (y 0) ⟨(y 1).val / 64, by have : (y 1).val < 1024 := (y 1).isLt; omega⟩ ⟨(y 1).val % 64, by omega⟩

theorem ld_q (h : Fin 16) (off : Nat) (ho : off = h.val * 64) (inb : ∀ a, (![0, off] : Fin 2 → Nat) a + S256x64.size a ≤ S256x1024.size a) (p : Fin 256) (a : Fin 64) :
    View.ld x0 (Rect.unit (s := S256x1024) ![0, off] S256x64.size inb) (ix2 p a) = x0 (ix2 p (Spec.col h a)) := by
  refine congrArg x0 (funext fun b => Fin.ext ?_)
  match b with
  | ⟨0, _⟩ => show 0 + 1 * p.val = p.val; omega
  | ⟨1, _⟩ => show off + 1 * a.val = h.val * 64 + a.val; omega
theorem ld_k (h : Fin 16) (off : Nat) (ho : off = h.val * 64) (inb : ∀ a, (![0, off] : Fin 2 → Nat) a + S2048x64.size a ≤ S2048x1024.size a) (p : Fin 2048) (a : Fin 64) :
    View.ld x1 (Rect.unit (s := S2048x1024) ![0, off] S2048x64.size inb) (ix2 p a) = x1 (ix2 p (Spec.col h a)) := by
  refine congrArg x1 (funext fun b => Fin.ext ?_)
  match b with
  | ⟨0, _⟩ => show 0 + 1 * p.val = p.val; omega
  | ⟨1, _⟩ => show off + 1 * a.val = h.val * 64 + a.val; omega

theorem bias_apply (p : Fin 256) (j : Fin 2048) : (k1_pay3 (View.ld x3 r1_0) (ix2 p j) : EReal) = x3 (ix2 p j) := by
  rw [View.ld_unit_zero zero2]
  exact shapeCast_apply (s := S256x2048) (t := S256x2048) x3 _ (ix2 p j) (ix2 p j) rfl

theorem emb_head (h : Fin 16) (off : Nat) (ho : off = h.val * 64) (inb : ∀ a, (![0, off] : Fin 2 → Nat) a + S256x64.size a ≤ S256x1024.size a) (p : Fin 256) (e : Fin 64) :
    attnBlock x0 x1 x2 x3 ((Rect.unit (s := S256x1024) ![0, off] S256x64.size inb).emb (ix2 p e)) = attn x0 x1 x2 x3 p h e := by
  have h0 : (((Rect.unit (s := S256x1024) ![0, off] S256x64.size inb).emb (ix2 p e)) 0).val = 0 + 1 * p.val := rfl
  have h1 : (((Rect.unit (s := S256x1024) ![0, off] S256x64.size inb).emb (ix2 p e)) 1).val = off + 1 * e.val := rfl
  unfold attnBlock
  generalize (Rect.unit (s := S256x1024) ![0, off] S256x64.size inb).emb (ix2 p e) = y at h0 h1
  have e0 : y 0 = p := Fin.ext (by rw [h0]; omega)
  have e1 : (⟨(y 1).val / 64, by have : (y 1).val < 1024 := (y 1).isLt; omega⟩ : Fin 16) = h := Fin.ext (by show (y 1).val / 64 = h.val; omega)
  have e2 : (⟨(y 1).val % 64, by omega⟩ : Fin 64) = e := Fin.ext (by show (y 1).val % 64 = e.val; omega)
  rw [e0, e1, e2]

theorem piece (h : Fin 16) (off : Nat) (ho : off = h.val * 64) (inb : ∀ a, (![0, off] : Fin 2 → Nat) a + S256x64.size a ≤ S256x1024.size a)
    (inb' : ∀ a, (![0, off] : Fin 2 → Nat) a + S2048x64.size a ≤ S2048x1024.size a) (i : S256x64.Idx) :
    (head (k1_pay3 (View.ld x3 r1_0)) (View.ld x0 (Rect.unit (s := S256x1024) ![0, off] S256x64.size inb))
      (View.ld x1 (Rect.unit (s := S2048x1024) ![0, off] S2048x64.size inb')) (View.ld x2 (Rect.unit (s := S2048x1024) ![0, off] S2048x64.size inb')) i : EReal)
      = attnBlock x0 x1 x2 x3 ((Rect.unit (s := S256x1024) ![0, off] S256x64.size inb).emb i) := by
  obtain ⟨p, e, rfl⟩ : ∃ (p : Fin 256) (e : Fin 64), i = ix2 p e := ⟨i 0, i 1, by funext a; match a with | ⟨0, _⟩ => rfl | ⟨1, _⟩ => rfl⟩
  rw [emb_head x0 x1 x2 x3 h off ho, head_apply]
  unfold attn weight
  simp only [ex_apply, ld_q x0 h off ho, ld_k x1 h off ho, ld_k x2 h off ho, bias_apply]

theorem out1_4_apply (p : Fin 256) (h : Fin 16) (e : Fin 64) :
    (out1_4 x0 x1 x2 x3 (ix2 p (Spec.col h e)) : EReal) = attn x0 x1 x2 x3 p h e := by
  have hb : attnBlock x0 x1 x2 x3 (ix2 p (Spec.col h e)) = attn x0 x1 x2 x3 p h e := by
    unfold attnBlock
    have e1 : (⟨(Spec.col h e).val / 64, by omega⟩ : Fin 16) = h := Fin.ext (by show (h.val * 64 + e.val) / 64 = h.val; omega)
    have e2 : (⟨(Spec.col h e).val % 64, by omega⟩ : Fin 64) = e := Fin.ext (by show (h.val * 64 + e.val) % 64 = e.val; omega)
    show attn x0 x1 x2 x3 p ⟨(Spec.col h e).val / 64, _⟩ ⟨(Spec.col h e).val % 64, _⟩ = _
    rw [e1, e2]
  rw [← hb]
  unfold out1_4
  refine View.canon_apply_of_pieces (Val := Elt Ideal) (attnBlock x0 x1 x2 x3) _ ?_ _ (cover1_4 _ _ _ _ _ _ _ _ _ _ _ _ _ _ _ _ _)
  unfold k1_pay29
  rw [head14_eq, head13_eq, head12_eq, head11_eq, head10_eq, head9_eq, head8_eq, head7_eq, head6_eq, head5_eq, head4_eq, head3_eq, head2_eq, head1_eq, head0_eq]
  simp only [List.forall_mem_cons, List.not_mem_nil, false_imp_iff, implies_true, and_true]
  exact ⟨piece x0 x1 x2 x3 15 960 rfl inb_S256x1024_S256x64_0_960 inb_S2048x1024_S2048x64_0_960,
    piece x0 x1 x2 x3 14 896 rfl inb_S256x1024_S256x64_0_896 inb_S2048x1024_S2048x64_0_896,
    piece x0 x1 x2 x3 13 832 rfl inb_S256x1024_S256x64_0_832 inb_S2048x1024_S2048x64_0_832,
    piece x0 x1 x2 x3 12 768 rfl inb_S256x1024_S256x64_0_768 inb_S2048x1024_S2048x64_0_768,
    piece x0 x1 x2 x3 11 704 rfl inb_S256x1024_S256x64_0_704 inb_S2048x1024_S2048x64_0_704,
    piece x0 x1 x2 x3 10 640 rfl inb_S256x1024_S256x64_0_640 inb_S2048x1024_S2048x64_0_640,
    piece x0 x1 x2 x3 9 576 rfl inb_S256x1024_S256x64_0_576 inb_S2048x1024_S2048x64_0_576,
    piece x0 x1 x2 x3 8 512 rfl inb_S256x1024_S256x64_0_512 inb_S2048x1024_S2048x64_0_512,
    piece x0 x1 x2 x3 7 448 rfl inb_S256x1024_S256x64_0_448 inb_S2048x1024_S2048x64_0_448,
    piece x0 x1 x2 x3 6 384 rfl inb_S256x1024_S256x64_0_384 inb_S2048x1024_S2048x64_0_384,
    piece x0 x1 x2 x3 5 320 rfl inb_S256x1024_S256x64_0_320 inb_S2048x1024_S2048x64_0_320,
    piece x0 x1 x2 x3 4 256 rfl inb_S256x1024_S256x64_0_256 inb_S2048x1024_S2048x64_0_256,
    piece x0 x1 x2 x3 3 192 rfl inb_S256x1024_S256x64_0_192 inb_S2048x1024_S2048x64_0_192,
    piece x0 x1 x2 x3 2 128 rfl inb_S256x1024_S256x64_0_128 inb_S2048x1024_S2048x64_0_128,
    piece x0 x1 x2 x3 1 64 rfl inb_S256x1024_S256x64_0_64 inb_S2048x1024_S2048x64_0_64,
    piece x0 x1 x2 x3 0 0 rfl inb_S256x1024_S256x64_0_0 inb_S2048x1024_S2048x64_0_0⟩
end

end Cert.KernelIdeal.Body
-- ==== Proof.KernelArrays.lean ====
/- The arrays the two regions of the idealized kernel leave behind, entry by entry, as functions of the arrays they were given. -/
module

public import proofs.«01_k».proof.Proof.KernelHeads
public import proofs.«01_k».proof.Proof.KernelMask
public import proofs.«01_k».proof.Proof.KernelLines
public import Idealize.ShloMosaic.Lib.Pipeline.ValueKit

@[expose] public section

set_option maxRecDepth 16384

noncomputable section

namespace Cert.KernelIdeal.Body

open Idealize.ShloMosaic hiding ix1 ix2 ix3
open Cert.KernelIdeal.Gen Idealize.ShloMosaic.TcCoe Idealize.ShloMosaic.ValueIdx
open Idealize.ShloMosaic.Pipeline (Dat Cfg Window)

/-! ## Where the blocks lie -/

theorem place0_0 : ∀ t : Fin cfg0.N, win0_0.index t = ![(grid0.coords t 0).val, 0] := (by decide +kernel : ∀ t : Fin grid0.N, _)
theorem place0_1 : ∀ t : Fin cfg0.N, win0_1.index t = ![0, 0] := (by decide +kernel : ∀ t : Fin grid0.N, _)
theorem place0_2 : ∀ t : Fin cfg0.N, win0_2.index t = ![(grid0.coords t 0).val, 0] := (by decide +kernel : ∀ t : Fin grid0.N, _)
theorem place0_3 : ∀ t : Fin cfg0.N, win0_3.index t = ![0, 0] := (by decide +kernel : ∀ t : Fin grid0.N, _)
theorem place0_4 : ∀ t : Fin cfg0.N, win0_4.index t = ![(grid0.coords t 0).val, 0] := (by decide +kernel : ∀ t : Fin grid0.N, _)
theorem place0_5 : ∀ t : Fin cfg0.N, win0_5.index t = ![(grid0.coords t 0).val, 0] := (by decide +kernel : ∀ t : Fin grid0.N, _)
theorem place0_6 : ∀ t : Fin cfg0.N, win0_6.index t = ![(grid0.coords t 0).val, 0] := (by decide +kernel : ∀ t : Fin grid0.N, _)
theorem place0_7 : ∀ t : Fin cfg0.N, win0_7.index t = ![(grid0.coords t 0).val, 0] := (by decide +kernel : ∀ t : Fin grid0.N, _)
theorem place0_8 : ∀ t : Fin cfg0.N, win0_8.index t = ![(grid0.coords t 0).val, 0] := (by decide +kernel : ∀ t : Fin grid0.N, _)

/-- Row `p` of the block at a point of the first grid. -/
def row0 (t : Fin cfg0.N) (p : Fin 256) : Fin 2048 :=
  ⟨(grid0.coords t 0).val * 256 + p.val, by have h : (grid0.coords t 0).val < 8 := (grid0.coords t 0).isLt; omega⟩

variable (V : (c : Dev nD) → (b : Ref sig .tc) → Buf (Elt Ideal) ((c : Thread nD τ).loc b)) (c : Dev nD)

theorem read0_0 (t : Fin cfg0.N) (p : Fin 256) (k : Fin 1024) :
    (iblk0 V c 0 t (ix2 p k) : EReal) = V c main_call0_v1 (ix2 (row0 t p) k) := by
  blk_simp [iblk0]
  refine congrArg (V c main_call0_v1) ?_
  blk_ext [place0_0, row0, ix2]

theorem read0_1 (t : Fin cfg0.N) (k : Fin 1024) (j : Fin 3072) :
    (iblk0 V c 1 t (ix2 k j) : EReal) = V c main_call0_v8 (ix2 k j) := by
  blk_simp [iblk0]
  refine congrArg (V c main_call0_v8) ?_
  blk_ext [place0_1, ix2]

theorem read0_2 (t : Fin cfg0.N) (p : Fin 256) (a : Fin 3) :
    (iblk0 V c 2 t (ix2 p a) : EReal) = V c main_call0_v2 (ix2 (row0 t p) a) := by
  blk_simp [iblk0]
  refine congrArg (V c main_call0_v2) ?_
  blk_ext [place0_2, row0, ix2]

theorem read0_3 (t : Fin cfg0.N) (a : Fin 3) (j : Fin 2048) :
    (iblk0 V c 3 t (ix2 a j) : EReal) = V c main_call0_v3 (ix2 a j) := by
  blk_simp [iblk0]
  refine congrArg (V c main_call0_v3) ?_
  blk_ext [place0_3, ix2]

/-- Row `p` of the inputs times column `c` of the weights, over the whole arrays. -/
def wide (X : S2048x1024.Idx → EReal) (W : S1024x3072.Idx → EReal) (r : Fin 2048) (j : Fin 3072) : EReal :=
  ∑ k : Fin 1024, X (ix2 r k) * W (ix2 k j)

/-- Two indices of rank two are one when their coordinates are. -/
theorem pair_of {n m : Nat} (y : (⟨2, ![n, m]⟩ : Shape).Idx) : ∃ (p : Fin n) (j : Fin m), y = ix2 p j :=
  ⟨y 0, y 1, by funext a; match a with | ⟨0, _⟩ => rfl | ⟨1, _⟩ => rfl⟩

section
variable (X : S2048x1024.Idx → EReal) (W : S1024x3072.Idx → EReal) (C : S2048x3.Idx → EReal) (T : S3x2048.Idx → EReal)

/-- The queries, an eighth of the first thousand-odd columns of the product. -/
def qAll : S2048x1024.Idx → EReal := fun i => wide X W (i 0) ⟨(i 1).val, lt_of_lt_of_le (i 1).isLt (by decide)⟩ * ((1 / 8 : ℝ) : EReal)

/-- The keys, the middle columns. -/
def kAll : S2048x1024.Idx → EReal := fun i => wide X W (i 0) ⟨1024 + (i 1).val, by have h : (i 1).val < 1024 := (i 1).isLt; omega⟩

/-- The values, the last columns. -/
def vAll : S2048x1024.Idx → EReal := fun i => wide X W (i 0) ⟨2048 + (i 1).val, by have h : (i 1).val < 1024 := (i 1).isLt; omega⟩

/-- The second result's entries: the keys' mean over the heads. -/
def metricAll : S2048x64.Idx → EReal := fun i =>
  (∑ h : Fin 16, wide X W (i 0) ⟨1024 + (Spec.col h (i 1)).val, by omega⟩) * ((1 / 16 : ℝ) : EReal)

/-- How far row `r`'s point is from point `j`. -/
def far (r j : Fin 2048) : EReal :=
  Ideal.sqrt ((C (ix2 r 0) - T (ix2 0 j)) * (C (ix2 r 0) - T (ix2 0 j)) + (C (ix2 r 1) - T (ix2 1 j)) * (C (ix2 r 1) - T (ix2 1 j))
    + (C (ix2 r 2) - T (ix2 2 j)) * (C (ix2 r 2) - T (ix2 2 j)))

open Classical in
/-- The bias: nothing at a row's neighbours, minus infinity elsewhere. -/
def biasAll : S2048x2048.Idx → EReal := fun i =>
  if 1 ≤ Knn.rank (far C T (i 0)) (i 1) ∧ Knn.rank (far C T (i 0)) (i 1) ≤ 16 then 0 else ⊥

end

/-! ## From a block to the arrays it is cut from -/

section
variable {X : S2048x1024.Idx → EReal} {W : S1024x3072.Idx → EReal} {C : S2048x3.Idx → EReal} {T : S3x2048.Idx → EReal}
variable {x0 : Vec Ideal S256x1024 .bf16} {x1 : Vec Ideal S1024x3072 .bf16} {x2 : Vec Ideal S256x3 .f32} {x3 : Vec Ideal S3x2048 .f32}
variable {at_ : Fin 256 → Fin 2048}
variable (h0 : ∀ p k, (x0 (ix2 p k) : EReal) = X (ix2 (at_ p) k)) (h1 : ∀ k j, (x1 (ix2 k j) : EReal) = W (ix2 k j))
variable (h2 : ∀ p a, (x2 (ix2 p a) : EReal) = C (ix2 (at_ p) a)) (h3 : ∀ a j, (x3 (ix2 a j) : EReal) = T (ix2 a j))

include h0 h1 in
theorem line_of (p : Fin 256) (j : Fin 3072) : line x0 x1 p j = wide X W (at_ p) j := by
  unfold line wide
  exact Finset.sum_congr rfl fun k _ => congrArg₂ (fun a b : EReal => a * b) (h0 p k) (h1 k j)

include h0 h1 in
theorem q_of (p : Fin 256) (j : Fin 1024) : (out0_4 x0 x1 (ix2 p j) : EReal) = qAll X W (ix2 (at_ p) j) :=
  (out0_4_apply x0 x1 p j).trans (congrArg (fun a : EReal => a * _) (line_of h0 h1 p _))

include h0 h1 in
theorem k_of (p : Fin 256) (j : Fin 1024) : (out0_5 x0 x1 (ix2 p j) : EReal) = kAll X W (ix2 (at_ p) j) :=
  (out0_5_apply x0 x1 p j).trans (line_of h0 h1 p _)

include h0 h1 in
theorem v_of (p : Fin 256) (j : Fin 1024) : (out0_6 x0 x1 (ix2 p j) : EReal) = vAll X W (ix2 (at_ p) j) :=
  (out0_6_apply x0 x1 p j).trans (line_of h0 h1 p _)

include h0 h1 in
theorem metric_of (p : Fin 256) (e : Fin 64) : (out0_7 x0 x1 (ix2 p e) : EReal) = metricAll X W (ix2 (at_ p) e) :=
  (out0_7_apply x0 x1 p e).trans
    (congrArg (fun a : EReal => a * ((1 / 16 : ℝ) : EReal)) (Finset.sum_congr rfl fun h _ => line_of h0 h1 p ⟨1024 + (Spec.col h e).val, by omega⟩))

include h2 h3 in
theorem far_of (p : Fin 256) : row (dist x2 x3) p = far C T (at_ p) := by
  funext j
  refine (dist_apply x2 x3 p j).trans ?_
  unfold sq far
  rw [h2 p 0, h2 p 1, h2 p 2, h3 0 j, h3 1 j, h3 2 j]

theorem biasAll_in {r j : Fin 2048} (h : 1 ≤ Knn.rank (far C T r) j ∧ Knn.rank (far C T r) j ≤ 16) : biasAll C T (ix2 r j) = 0 := if_pos h
theorem biasAll_out {r j : Fin 2048} (h : ¬ (1 ≤ Knn.rank (far C T r) j ∧ Knn.rank (far C T r) j ≤ 16)) : biasAll C T (ix2 r j) = ⊥ := if_neg h

include h2 h3 in
theorem bias_of (hd : ∀ r j, far C T r j ≠ ⊤) (p : Fin 256) (j : Fin 2048) : (out0_8 x2 x3 (ix2 p j) : EReal) = biasAll C T (ix2 (at_ p) j) := by
  have hrow (p : Fin 256) (j : Fin 2048) : row (dist x2 x3) p j ≠ ⊤ := by rw [far_of h2 h3]; exact hd _ _
  by_cases hr : 1 ≤ Knn.rank (far C T (at_ p)) j ∧ Knn.rank (far C T (at_ p)) j ≤ 16
  · exact (out0_8_in x2 x3 hrow p j (by rw [far_of h2 h3]; exact hr)).trans (biasAll_in hr).symm
  · exact (out0_8_out x2 x3 hrow p j (by rw [far_of h2 h3]; exact hr)).trans (biasAll_out hr).symm

end

/-! ## The first region -/

theorem put0_4 (t : Fin cfg0.N) (p : Fin 256) (j : Fin 1024) : ((cfg0.win 4).blk t).view.emb (ix2 p j) = ix2 (row0 t p) j := by
  blk_ext [place0_4, row0, ix2]
theorem put0_5 (t : Fin cfg0.N) (p : Fin 256) (j : Fin 1024) : ((cfg0.win 5).blk t).view.emb (ix2 p j) = ix2 (row0 t p) j := by
  blk_ext [place0_5, row0, ix2]
theorem put0_6 (t : Fin cfg0.N) (p : Fin 256) (j : Fin 1024) : ((cfg0.win 6).blk t).view.emb (ix2 p j) = ix2 (row0 t p) j := by
  blk_ext [place0_6, row0, ix2]
theorem put0_7 (t : Fin cfg0.N) (p : Fin 256) (e : Fin 64) : ((cfg0.win 7).blk t).view.emb (ix2 p e) = ix2 (row0 t p) e := by
  blk_ext [place0_7, row0, ix2]
theorem put0_8 (t : Fin cfg0.N) (p : Fin 256) (j : Fin 2048) : ((cfg0.win 8).blk t).view.emb (ix2 p j) = ix2 (row0 t p) j := by
  blk_ext [place0_8, row0, ix2]

theorem arr0_4 : (dat0 V c).arrAt 4 cfg0.N = qAll (V c main_call0_v1) (V c main_call0_v8) := by
  refine (dat0 V c).arrAt_eq_of_covers 4 _ (by decide +kernel) fun t _ y => ?_
  obtain ⟨p, j, rfl⟩ : ∃ p j, y = ix2 p j := pair_of y
  blk_simp
  rw [after0_4]
  exact (q_of (at_ := row0 t) (read0_0 V c t) (read0_1 V c t) p j).trans
    (congrArg (qAll (V c main_call0_v1) (V c main_call0_v8)) (put0_4 t p j).symm)

theorem arr0_5 : (dat0 V c).arrAt 5 cfg0.N = kAll (V c main_call0_v1) (V c main_call0_v8) := by
  refine (dat0 V c).arrAt_eq_of_covers 5 _ (by decide +kernel) fun t _ y => ?_
  obtain ⟨p, j, rfl⟩ : ∃ p j, y = ix2 p j := pair_of y
  blk_simp
  rw [after0_5]
  exact (k_of (at_ := row0 t) (read0_0 V c t) (read0_1 V c t) p j).trans
    (congrArg (kAll (V c main_call0_v1) (V c main_call0_v8)) (put0_5 t p j).symm)

theorem arr0_6 : (dat0 V c).arrAt 6 cfg0.N = vAll (V c main_call0_v1) (V c main_call0_v8) := by
  refine (dat0 V c).arrAt_eq_of_covers 6 _ (by decide +kernel) fun t _ y => ?_
  obtain ⟨p, j, rfl⟩ : ∃ p j, y = ix2 p j := pair_of y
  blk_simp
  rw [after0_6]
  exact (v_of (at_ := row0 t) (read0_0 V c t) (read0_1 V c t) p j).trans
    (congrArg (vAll (V c main_call0_v1) (V c main_call0_v8)) (put0_6 t p j).symm)

theorem arr0_7 : (dat0 V c).arrAt 7 cfg0.N = metricAll (V c main_call0_v1) (V c main_call0_v8) := by
  refine (dat0 V c).arrAt_eq_of_covers 7 _ (by decide +kernel) fun t _ y => ?_
  obtain ⟨p, j, rfl⟩ : ∃ p j, y = ix2 p j := pair_of y
  blk_simp
  rw [after0_7]
  exact (metric_of (at_ := row0 t) (read0_0 V c t) (read0_1 V c t) p j).trans
    (congrArg (metricAll (V c main_call0_v1) (V c main_call0_v8)) (put0_7 t p j).symm)

/-- The mask's array, whatever the body is known to leave in its blocks. -/
theorem whole0_8 (dat : Dat τ (Elt Ideal) Unit ℕ (UR sig nD τ) ℕ cfg0 c) (B : Fin cfg0.N → Vec Ideal S256x2048 .bf16) (G : S2048x2048.Idx → EReal)
    (hB : ∀ t, dat.after 8 t = B t) (hG : ∀ t p j, (B t (ix2 p j) : EReal) = G (ix2 (row0 t p) j)) : dat.arrAt 8 cfg0.N = G := by
  refine dat.arrAt_eq_of_covers 8 _ (by decide +kernel) fun t _ y => ?_
  obtain ⟨p, j, rfl⟩ : ∃ p j, y = ix2 p j := pair_of y
  blk_simp
  rw [hB]
  exact (hG t p j).trans (congrArg G (put0_8 t p j).symm)

theorem arr0_8 (hd : ∀ r j, far (V c main_call0_v2) (V c main_call0_v3) r j ≠ ⊤) : (dat0 V c).arrAt 8 cfg0.N = biasAll (V c main_call0_v2) (V c main_call0_v3) :=
  whole0_8 c (dat0 V c) _ _ (after0_8 V c) fun t p j => bias_of (at_ := row0 t) (read0_2 V c t) (read0_3 V c t) hd p j

/-! ## The second region -/

theorem place1_0 : ∀ t : Fin cfg1.N, win1_0.index t = ![(grid1.coords t 0).val, 0] := (by decide +kernel : ∀ t : Fin grid1.N, _)
theorem place1_1 : ∀ t : Fin cfg1.N, win1_1.index t = ![0, 0] := (by decide +kernel : ∀ t : Fin grid1.N, _)
theorem place1_2 : ∀ t : Fin cfg1.N, win1_2.index t = ![0, 0] := (by decide +kernel : ∀ t : Fin grid1.N, _)
theorem place1_3 : ∀ t : Fin cfg1.N, win1_3.index t = ![(grid1.coords t 0).val, 0] := (by decide +kernel : ∀ t : Fin grid1.N, _)
theorem place1_4 : ∀ t : Fin cfg1.N, win1_4.index t = ![(grid1.coords t 0).val, 0] := (by decide +kernel : ∀ t : Fin grid1.N, _)

/-- Row `p` of the block at a point of the second grid. -/
def row1 (t : Fin cfg1.N) (p : Fin 256) : Fin 2048 :=
  ⟨(grid1.coords t 0).val * 256 + p.val, by have h : (grid1.coords t 0).val < 8 := (grid1.coords t 0).isLt; omega⟩

theorem read1_0 (t : Fin cfg1.N) (p : Fin 256) (k : Fin 1024) :
    (iblk1 V c 0 t (ix2 p k) : EReal) = V c main_call0_v9_0 (ix2 (row1 t p) k) := by
  blk_simp [iblk1]
  refine congrArg (V c main_call0_v9_0) ?_
  blk_ext [place1_0, row1, ix2]
theorem read1_1 (t : Fin cfg1.N) (p : Fin 2048) (k : Fin 1024) :
    (iblk1 V c 1 t (ix2 p k) : EReal) = V c main_call0_v9_1 (ix2 p k) := by
  blk_simp [iblk1]
  refine congrArg (V c main_call0_v9_1) ?_
  blk_ext [place1_1, ix2]
theorem read1_2 (t : Fin cfg1.N) (p : Fin 2048) (k : Fin 1024) :
    (iblk1 V c 2 t (ix2 p k) : EReal) = V c main_call0_v9_2 (ix2 p k) := by
  blk_simp [iblk1]
  refine congrArg (V c main_call0_v9_2) ?_
  blk_ext [place1_2, ix2]
theorem read1_3 (t : Fin cfg1.N) (p : Fin 256) (j : Fin 2048) :
    (iblk1 V c 3 t (ix2 p j) : EReal) = V c main_call0_v9_4 (ix2 (row1 t p) j) := by
  blk_simp [iblk1]
  refine congrArg (V c main_call0_v9_4) ?_
  blk_ext [place1_3, row1, ix2]

theorem put1_4 (t : Fin cfg1.N) (p : Fin 256) (j : Fin 1024) : ((cfg1.win 4).blk t).view.emb (ix2 p j) = ix2 (row1 t p) j := by
  blk_ext [place1_4, row1, ix2]

section
variable (q k v : S2048x1024.Idx → EReal) (b : S2048x2048.Idx → EReal)

/-- The weight row `r` gives row `j` in head `h`, over the whole arrays. -/
def weightAll (r : Fin 2048) (h : Fin 16) (j : Fin 2048) : EReal :=
  Ideal.exp ((∑ a : Fin 64, q (ix2 r (Spec.col h a)) * k (ix2 j (Spec.col h a))) + b (ix2 r j))

/-- Entry `e` of head `h` of row `r`: the weighted mean of the values. -/
def meanAll (r : Fin 2048) (h : Fin 16) (e : Fin 64) : EReal :=
  Ideal.div (∑ j : Fin 2048, weightAll q k b r h j * v (ix2 j (Spec.col h e))) (∑ j : Fin 2048, weightAll q k b r h j)

/-- The first result's entries. -/
def outAll : S2048x1024.Idx → EReal := fun i =>
  meanAll q k v b (i 0) ⟨(i 1).val / 64, by have h : (i 1).val < 1024 := (i 1).isLt; omega⟩ ⟨(i 1).val % 64, by omega⟩

theorem outAll_col (r : Fin 2048) (h : Fin 16) (e : Fin 64) : outAll q k v b (ix2 r (Spec.col h e)) = meanAll q k v b r h e := by
  have e1 : (⟨(Spec.col h e).val / 64, by omega⟩ : Fin 16) = h := Fin.ext (by show (h.val * 64 + e.val) / 64 = h.val; omega)
  have e2 : (⟨(Spec.col h e).val % 64, by omega⟩ : Fin 64) = e := Fin.ext (by show (h.val * 64 + e.val) % 64 = e.val; omega)
  show meanAll q k v b r ⟨(Spec.col h e).val / 64, _⟩ ⟨(Spec.col h e).val % 64, _⟩ = _
  rw [e1, e2]

end

section
variable {q k v : S2048x1024.Idx → EReal} {b : S2048x2048.Idx → EReal}
variable {x0 : Vec Ideal S256x1024 .bf16} {x1 x2 : Vec Ideal S2048x1024 .bf16} {x3 : Vec Ideal S256x2048 .bf16}
variable {at_ : Fin 256 → Fin 2048}
variable (h0 : ∀ p k, (x0 (ix2 p k) : EReal) = q (ix2 (at_ p) k)) (h1 : ∀ p j, (x1 (ix2 p j) : EReal) = k (ix2 p j))
variable (h2 : ∀ p j, (x2 (ix2 p j) : EReal) = v (ix2 p j)) (h3 : ∀ p j, (x3 (ix2 p j) : EReal) = b (ix2 (at_ p) j))

include h0 h1 h3 in
theorem weight_of (p : Fin 256) (h : Fin 16) (j : Fin 2048) : weight x0 x1 x3 p h j = weightAll q k b (at_ p) h j := by
  unfold weight weightAll
  exact congrArg Ideal.exp (congrArg₂ (fun a b : EReal => a + b)
    (Finset.sum_congr rfl fun a _ => congrArg₂ (fun a b : EReal => a * b) (h0 p _) (h1 j _)) (h3 p j))

include h0 h1 h2 h3 in
theorem out_of (p : Fin 256) (h : Fin 16) (e : Fin 64) :
    (out1_4 x0 x1 x2 x3 (ix2 p (Spec.col h e)) : EReal) = outAll q k v b (ix2 (at_ p) (Spec.col h e)) := by
  refine (out1_4_apply x0 x1 x2 x3 p h e).trans ?_
  rw [outAll_col]
  unfold attn meanAll
  simp only [weight_of h0 h1 h3]
  exact congrArg (fun a : EReal => Ideal.div a _) (Finset.sum_congr rfl fun j _ => congrArg (fun a : EReal => _ * a) (h2 j _))

end

theorem arr1_4 : (dat1 V c).arrAt 4 cfg1.N =
    outAll (V c main_call0_v9_0) (V c main_call0_v9_1) (V c main_call0_v9_2) (V c main_call0_v9_4) := by
  refine (dat1 V c).arrAt_eq_of_covers 4 _ (by decide +kernel) fun t _ y => ?_
  obtain ⟨p, j, rfl⟩ : ∃ p j, y = ix2 p j := pair_of y
  obtain ⟨h, e, rfl⟩ := Spec.exists_col j
  blk_simp
  rw [after1_4]
  exact (out_of (at_ := row1 t) (read1_0 V c t) (read1_1 V c t) (read1_2 V c t) (read1_3 V c t) p h e).trans
    (congrArg (outAll (V c main_call0_v9_0) (V c main_call0_v9_1) (V c main_call0_v9_2) (V c main_call0_v9_4)) (put1_4 t p _).symm)

end Cert.KernelIdeal.Body
-- ==== Proof.KernelHost.lean ====
/- What the idealized kernel's host operations leave for the regions, and what they make of the regions' arrays. -/
module

public import proofs.«01_k».proof.Proof.KernelArrays
public import proofs.«01_k».proof.Proof.KernelIdealRun
public import Idealize.ShloMosaic.Lib.Claim

@[expose] public section

set_option maxRecDepth 16384

noncomputable section

namespace Cert.KernelIdeal.Body

open Idealize.ShloMosaic hiding ix1 ix2 ix3
open Cert.KernelIdeal.Gen Idealize.ShloMosaic.TcCoe Idealize.ShloMosaic.ValueIdx

/-! ## Layout, entry by entry -/

section
variable {α : Type}

theorem flat_x (x : S1x2048x1024.Idx → α) (r : Fin 2048) (k : Fin 1024) :
    shapeCast S2048x1024 x shapeCasts_S1x2048x1024_S2048x1024 (ix2 r k) = x (ix3 0 r k) :=
  shapeCast_apply x shapeCasts_S1x2048x1024_S2048x1024 (ix2 r k) (ix3 0 r k)
    (by rewrite [Shape.rowMajor_val_three, Shape.rowMajor_val_two]; show (0 * 2048 + r.val) * 1024 + k.val = r.val * 1024 + k.val; omega)

theorem flat_c (x : S1x2048x3.Idx → α) (r : Fin 2048) (a : Fin 3) :
    shapeCast S2048x3 x shapeCasts_S1x2048x3_S2048x3 (ix2 r a) = x (ix3 0 r a) :=
  shapeCast_apply x shapeCasts_S1x2048x3_S2048x3 (ix2 r a) (ix3 0 r a)
    (by rewrite [Shape.rowMajor_val_three, Shape.rowMajor_val_two]; show (0 * 2048 + r.val) * 3 + a.val = r.val * 3 + a.val; omega)

theorem flip_c (x : S2048x3.Idx → α) (a : Fin 3) (j : Fin 2048) :
    transpose S3x2048 [1, 0] x transposes_S2048x3_S3x2048_1_0 (ix2 a j) = x (ix2 j a) :=
  transpose_apply [1, 0] x transposes_S2048x3_S3x2048_1_0 (ix2 a j) (ix2 j a) (fun b => match b with | ⟨0, _⟩ => rfl | ⟨1, _⟩ => rfl)

theorem flip_w (x : S1024x1024.Idx → α) (k j : Fin 1024) :
    transpose S1024x1024 [1, 0] x transposes_S1024x1024_S1024x1024_1_0 (ix2 k j) = x (ix2 j k) :=
  transpose_apply [1, 0] x transposes_S1024x1024_S1024x1024_1_0 (ix2 k j) (ix2 j k) (fun b => match b with | ⟨0, _⟩ => rfl | ⟨1, _⟩ => rfl)

/-- The three weight matrices side by side. -/
def packed (A B C : S1024x1024.Idx → α) : S1024x3072.Idx → α :=
  concatenate S1024x3072 1 [⟨S1024x1024, A⟩, ⟨S1024x1024, B⟩, ⟨S1024x1024, C⟩] concatenates_S1024x1024_S1024x1024_S1024x1024_S1024x3072_d1

variable (A B C : S1024x1024.Idx → α) (k j : Fin 1024)

theorem beside (J : Fin 3072) (b : Fin S1024x1024.rank) (hb : b.cast rfl ≠ (1 : Fin S1024x3072.rank)) :
    (ix2 k j b).val = ((ix2 k J : S1024x3072.Idx) (b.cast rfl)).val := by
  match b with
  | ⟨0, _⟩ => rfl
  | ⟨1, _⟩ => exact absurd rfl hb

theorem packed_0 : packed A B C (ix2 k ⟨j.val, by omega⟩) = A (ix2 k j) :=
  concatenate_apply_piece (t := S1024x3072) 1 [⟨S1024x1024, A⟩, ⟨S1024x1024, B⟩, ⟨S1024x1024, C⟩] _ _ 0 (Nat.succ_pos 2) S1024x1024 A rfl rfl 0 rfl (ix2 k j)
    (beside k j _) (by show 0 + j.val = j.val; omega)
theorem packed_1 : packed A B C (ix2 k ⟨1024 + j.val, by omega⟩) = B (ix2 k j) :=
  concatenate_apply_piece (t := S1024x3072) 1 [⟨S1024x1024, A⟩, ⟨S1024x1024, B⟩, ⟨S1024x1024, C⟩] _ _ 1 (by show 1 < 3; decide) S1024x1024 B rfl rfl 1024 rfl (ix2 k j)
    (beside k j _) rfl
theorem packed_2 : packed A B C (ix2 k ⟨2048 + j.val, by omega⟩) = C (ix2 k j) :=
  concatenate_apply_piece (t := S1024x3072) 1 [⟨S1024x1024, A⟩, ⟨S1024x1024, B⟩, ⟨S1024x1024, C⟩] _ _ 2 (by show 2 < 3; decide) S1024x1024 C rfl rfl 2048 rfl (ix2 k j)
    (beside k j _) rfl

theorem batch_out (x : S2048x1024.Idx → α) (r : Fin 2048) (j : Fin 1024) :
    broadcastInDim S1x2048x1024 ![1, 2] bcast_S2048x1024_S1x2048x1024_1_2 x (ix3 0 r j) = x (ix2 r j) :=
  broadcastInDim_apply _ bcast_S2048x1024_S1x2048x1024_1_2 x (ix3 0 r j) (ix2 r j) (fun a => match a with
    | ⟨0, _⟩ => by show r.val = if (2048 : Nat) = 1 then 0 else r.val; rw [if_neg (by decide)]
    | ⟨1, _⟩ => by show j.val = if (1024 : Nat) = 1 then 0 else j.val; rw [if_neg (by decide)])

theorem batch_metric (x : S2048x64.Idx → α) (r : Fin 2048) (e : Fin 64) :
    broadcastInDim S1x2048x64 ![1, 2] bcast_S2048x64_S1x2048x64_1_2 x (ix3 0 r e) = x (ix2 r e) :=
  broadcastInDim_apply _ bcast_S2048x64_S1x2048x64_1_2 x (ix3 0 r e) (ix2 r e) (fun a => match a with
    | ⟨0, _⟩ => by show r.val = if (2048 : Nat) = 1 then 0 else r.val; rw [if_neg (by decide)]
    | ⟨1, _⟩ => by show e.val = if (64 : Nat) = 1 then 0 else e.val; rw [if_neg (by decide)])

end

/-! ## The arrays the first region is given -/

variable (m : (ℓ : Loc nD τ sig) → Buf (Elt Ideal) ℓ) (ρ : Dev nD → PrngReg) (c : Dev nD)

/-- The arguments, as arrays of extended reals. -/
abbrev argX : S1x2048x1024.Idx → EReal := m ((c : Thread nD τ).loc main_arg0)
abbrev argC : S1x2048x3.Idx → EReal := m ((c : Thread nD τ).loc main_arg1)
abbrev argQ : S1024x1024.Idx → EReal := m ((c : Thread nD τ).loc main_arg2)
abbrev argK : S1024x1024.Idx → EReal := m ((c : Thread nD τ).loc main_arg3)
abbrev argV : S1024x1024.Idx → EReal := m ((c : Thread nD τ).loc main_arg4)

theorem host_v1 : (V1 m ρ c main_call0_v1 : S2048x1024.Idx → EReal) = shapeCast S2048x1024 (argX m c) shapeCasts_S1x2048x1024_S2048x1024 := by
  show StableHlo.after hostOps0 _ (Proc.devRef .tc main_call0_v1) = _
  after_results
  rfl

theorem host_v2 : (V1 m ρ c main_call0_v2 : S2048x3.Idx → EReal) = shapeCast S2048x3 (argC m c) shapeCasts_S1x2048x3_S2048x3 := by
  show StableHlo.after hostOps0 _ (Proc.devRef .tc main_call0_v2) = _
  after_results
  rfl

theorem host_v3 : (V1 m ρ c main_call0_v3 : S3x2048.Idx → EReal)
    = transpose S3x2048 [1, 0] (shapeCast S2048x3 (argC m c) shapeCasts_S1x2048x3_S2048x3) transposes_S2048x3_S3x2048_1_0 := by
  show StableHlo.after hostOps0 _ (Proc.devRef .tc main_call0_v3) = _
  after_results
  rfl

theorem host_v8 : (V1 m ρ c main_call0_v8 : S1024x3072.Idx → EReal)
    = packed (transpose S1024x1024 [1, 0] (argQ m c) transposes_S1024x1024_S1024x1024_1_0)
        (transpose S1024x1024 [1, 0] (argK m c) transposes_S1024x1024_S1024x1024_1_0)
        (transpose S1024x1024 [1, 0] (argV m c) transposes_S1024x1024_S1024x1024_1_0) := by
  show StableHlo.after hostOps0 _ (Proc.devRef .tc main_call0_v8) = _
  after_results
  rfl

/-- The results, from the arrays the regions leave. -/
theorem host_out : (W4 m ρ c (Proc.devRef .tc main_v0_0) : S1x2048x1024.Idx → EReal)
    = broadcastInDim S1x2048x1024 ![1, 2] bcast_S2048x1024_S1x2048x1024_1_2 (W3 m ρ c (Proc.devRef .tc main_call0_v10) : S2048x1024.Idx → EReal) := by
  show StableHlo.after hostOps2 _ (Proc.devRef .tc main_v0_0) = _
  after_results
  rfl

theorem host_metric : (W4 m ρ c (Proc.devRef .tc main_v0_1) : S1x2048x64.Idx → EReal)
    = broadcastInDim S1x2048x64 ![1, 2] bcast_S2048x64_S1x2048x64_1_2 (W3 m ρ c (Proc.devRef .tc main_call0_v9_3) : S2048x64.Idx → EReal) := by
  show StableHlo.after hostOps2 _ (Proc.devRef .tc main_v0_1) = _
  after_results
  rfl

/-- What the first region is given, by the arguments' entries. -/
theorem given_x (r : Fin 2048) (k : Fin 1024) : (V1 m ρ c main_call0_v1 (ix2 r k) : EReal) = argX m c (ix3 0 r k) :=
  (congrFun (host_v1 m ρ c) (ix2 r k)).trans (flat_x _ r k)
theorem given_c (r : Fin 2048) (a : Fin 3) : (V1 m ρ c main_call0_v2 (ix2 r a) : EReal) = argC m c (ix3 0 r a) :=
  (congrFun (host_v2 m ρ c) (ix2 r a)).trans (flat_c _ r a)
theorem given_t (a : Fin 3) (j : Fin 2048) : (V1 m ρ c main_call0_v3 (ix2 a j) : EReal) = argC m c (ix3 0 j a) :=
  (congrFun (host_v3 m ρ c) (ix2 a j)).trans ((flip_c _ a j).trans (flat_c _ j a))
theorem given_q (k j : Fin 1024) : (V1 m ρ c main_call0_v8 (ix2 k (⟨j.val, by omega⟩ : Fin 3072)) : EReal) = argQ m c (ix2 j k) :=
  (congrFun (host_v8 m ρ c) _).trans ((packed_0 _ _ _ k j).trans (flip_w _ k j))
theorem given_k (k j : Fin 1024) : (V1 m ρ c main_call0_v8 (ix2 k (⟨1024 + j.val, by omega⟩ : Fin 3072)) : EReal) = argK m c (ix2 j k) :=
  (congrFun (host_v8 m ρ c) _).trans ((packed_1 _ _ _ k j).trans (flip_w _ k j))
theorem given_v (k j : Fin 1024) : (V1 m ρ c main_call0_v8 (ix2 k (⟨2048 + j.val, by omega⟩ : Fin 3072)) : EReal) = argV m c (ix2 j k) :=
  (congrFun (host_v8 m ρ c) _).trans ((packed_2 _ _ _ k j).trans (flip_w _ k j))

/-! ## The projections -/

theorem wide_q (r : Fin 2048) (j : Fin 1024) :
    wide (V1 m ρ c main_call0_v1) (V1 m ρ c main_call0_v8) r ⟨j.val, by omega⟩
      = Spec.proj (fun p k => argX m c (ix3 0 p k)) (fun i k => argQ m c (ix2 i k)) r j :=
  Finset.sum_congr rfl fun k _ => congrArg₂ (fun a b : EReal => a * b) (given_x m ρ c r k) (given_q m ρ c k j)
theorem wide_k (r : Fin 2048) (j : Fin 1024) :
    wide (V1 m ρ c main_call0_v1) (V1 m ρ c main_call0_v8) r ⟨1024 + j.val, by omega⟩
      = Spec.proj (fun p k => argX m c (ix3 0 p k)) (fun i k => argK m c (ix2 i k)) r j :=
  Finset.sum_congr rfl fun k _ => congrArg₂ (fun a b : EReal => a * b) (given_x m ρ c r k) (given_k m ρ c k j)
theorem wide_v (r : Fin 2048) (j : Fin 1024) :
    wide (V1 m ρ c main_call0_v1) (V1 m ρ c main_call0_v8) r ⟨2048 + j.val, by omega⟩
      = Spec.proj (fun p k => argX m c (ix3 0 p k)) (fun i k => argV m c (ix2 i k)) r j :=
  Finset.sum_congr rfl fun k _ => congrArg₂ (fun a b : EReal => a * b) (given_x m ρ c r k) (given_v m ρ c k j)

/-- The square of how far two points are apart along one axis. -/
def gap (C : S1x2048x3.Idx → EReal) (r j : Fin 2048) (a : Fin 3) : EReal :=
  (C (ix3 0 r a) - C (ix3 0 j a)) * (C (ix3 0 r a) - C (ix3 0 j a))

theorem far_gap (r j : Fin 2048) : far (V1 m ρ c main_call0_v2) (V1 m ρ c main_call0_v3) r j
    = Ideal.sqrt (gap (argC m c) r j 0 + gap (argC m c) r j 1 + gap (argC m c) r j 2) := by
  have e (a : Fin 3) : ∀ (A : S2048x3.Idx → EReal) (B : S3x2048.Idx → EReal), A (ix2 r a) = argC m c (ix3 0 r a) → B (ix2 a j) = argC m c (ix3 0 j a) →
      (A (ix2 r a) - B (ix2 a j)) * (A (ix2 r a) - B (ix2 a j)) = gap (argC m c) r j a := by
    intro A B hA hB; unfold gap; rw [hA, hB]
  unfold far
  rw [e 0 _ _ (given_c m ρ c r 0) (given_t m ρ c 0 j), e 1 _ _ (given_c m ρ c r 1) (given_t m ρ c 1 j), e 2 _ _ (given_c m ρ c r 2) (given_t m ρ c 2 j)]

/-! ## The results, over the first region's arrays -/

theorem W2_q : W2 m ρ c (Proc.devRef .tc main_call0_v9_0) = qAll (V1 m ρ c main_call0_v1) (V1 m ρ c main_call0_v8) :=
  (W2_arr m ρ c 4).trans (arr0_4 (V1 m ρ) c)
theorem W2_k : W2 m ρ c (Proc.devRef .tc main_call0_v9_1) = kAll (V1 m ρ c main_call0_v1) (V1 m ρ c main_call0_v8) :=
  (W2_arr m ρ c 5).trans (arr0_5 (V1 m ρ) c)
theorem W2_v : W2 m ρ c (Proc.devRef .tc main_call0_v9_2) = vAll (V1 m ρ c main_call0_v1) (V1 m ρ c main_call0_v8) :=
  (W2_arr m ρ c 6).trans (arr0_6 (V1 m ρ) c)
theorem W2_metric : W2 m ρ c (Proc.devRef .tc main_call0_v9_3) = metricAll (V1 m ρ c main_call0_v1) (V1 m ρ c main_call0_v8) :=
  (W2_arr m ρ c 7).trans (arr0_7 (V1 m ρ) c)
theorem W2_bias (hd : ∀ r j, far (V1 m ρ c main_call0_v2) (V1 m ρ c main_call0_v3) r j ≠ ⊤) :
    W2 m ρ c (Proc.devRef .tc main_call0_v9_4) = biasAll (V1 m ρ c main_call0_v2) (V1 m ρ c main_call0_v3) :=
  (W2_arr m ρ c 8).trans (arr0_8 (V1 m ρ) c hd)

theorem result_metric (p : Fin 2048) (e : Fin 64) : (W4 m ρ c (Proc.devRef .tc main_v0_1) (ix3 0 p e) : EReal)
    = (∑ h : Fin 16, Spec.proj (fun p k => argX m c (ix3 0 p k)) (fun i k => argK m c (ix2 i k)) p (Spec.col h e)) * ((1 / 16 : ℝ) : EReal) := by
  refine (congrFun (host_metric m ρ c) (ix3 0 p e)).trans ((batch_metric _ p e).trans ?_)
  have e3 : W3 m ρ c (Proc.devRef .tc main_call0_v9_3) = metricAll (V1 m ρ c main_call0_v1) (V1 m ρ c main_call0_v8) :=
    (W3_of_ne m ρ c main_call0_v9_3 (by decide +kernel)).trans (W2_metric m ρ c)
  refine (congrFun e3 (ix2 p e)).trans ?_
  exact congrArg (fun a : EReal => a * ((1 / 16 : ℝ) : EReal)) (Finset.sum_congr rfl fun h _ => wide_k m ρ c p (Spec.col h e))

theorem result_out (hd : ∀ r j, far (V1 m ρ c main_call0_v2) (V1 m ρ c main_call0_v3) r j ≠ ⊤) (p : Fin 2048) (h : Fin 16) (e : Fin 64) :
    (W4 m ρ c (Proc.devRef .tc main_v0_0) (ix3 0 p (Spec.col h e)) : EReal)
      = meanAll (qAll (V1 m ρ c main_call0_v1) (V1 m ρ c main_call0_v8)) (kAll (V1 m ρ c main_call0_v1) (V1 m ρ c main_call0_v8))
          (vAll (V1 m ρ c main_call0_v1) (V1 m ρ c main_call0_v8)) (biasAll (V1 m ρ c main_call0_v2) (V1 m ρ c main_call0_v3)) p h e := by
  refine (congrFun (host_out m ρ c) (ix3 0 p _)).trans ((batch_out _ p _).trans ?_)
  have e4 : W3 m ρ c (Proc.devRef .tc main_call0_v10)
      = outAll (V2 m ρ c main_call0_v9_0) (V2 m ρ c main_call0_v9_1) (V2 m ρ c main_call0_v9_2) (V2 m ρ c main_call0_v9_4) :=
    (W3_arr m ρ c 4).trans (arr1_4 (V2 m ρ) c)
  refine (congrFun e4 (ix2 p (Spec.col h e))).trans ((outAll_col _ _ _ _ p h e).trans ?_)
  show meanAll (W2 m ρ c (Proc.devRef .tc main_call0_v9_0)) (W2 m ρ c (Proc.devRef .tc main_call0_v9_1))
    (W2 m ρ c (Proc.devRef .tc main_call0_v9_2)) (W2 m ρ c (Proc.devRef .tc main_call0_v9_4)) p h e = _
  rw [W2_q, W2_k, W2_v, W2_bias m ρ c hd]

end Cert.KernelIdeal.Body
-- ==== Proof.RefMask.lean ====
/- The reference's neighbour mask: set at `(p, j)` exactly where `j` is one of the 16 nearest of `p` after the nearest. -/
module

public import proofs.«01_k».proof.Proof.Gen.ReferenceIdeal.Read
public import proofs.«01_k».proof.Proof.Knn
public import Idealize.ShloMosaic.Lib.Routing.OpsPair
public import Idealize.ShloMosaic.Lib.Routing.OpsSet
public import Idealize.ShloMosaic.Lib.Pipeline.Value
public import Idealize.ShloMosaic.Lib.ValueIdx
public import Idealize.ShloMosaic.Lib.WordCmp

@[expose] public section

set_option maxRecDepth 16384

noncomputable section

namespace Cert.ReferenceIdeal.Mask

open Cert.ReferenceIdeal Cert.ReferenceIdeal.Gen Cert.ReferenceIdeal.Read Idealize.ShloMosaic Idealize.ShloMosaic.ValueIdx

variable (x1 : (⟨S1x2048x3, .f32⟩ : BufTy).Contents (Elt Ideal))

/-- The reference's distances of point `p` to all points. -/
def rdist (p : Fin 2048) (j : Fin 2048) : EReal := val_main_v7 (F := Ideal) x1 (ix3 0 p j)

theorem along_eq (p j k : Fin 2048) :
    (ix3 (0 : Fin 1) p j : S1x2048x2048.Idx).along 2 k = ix3 0 p k := by
  funext a
  match a with
  | ⟨0, _⟩ => rfl
  | ⟨1, _⟩ => rfl
  | ⟨2, _⟩ => rfl

theorem gt_neg (a b : EReal) : (FloatOps.cmpfTotal (F := Ideal) (φ := .f32) .gt (-a : EReal) (-b : EReal) == 1#1) = decide (a < b) := by
  show (BitVec.ofBool (decide ((-b : EReal) < -a)) == 1#1) = decide (a < b)
  by_cases h : a < b
  · have h' : -b < -a := EReal.neg_lt_neg_iff.mpr h
    simp [h, h']
  · have h' : ¬ -b < -a := fun c => h (EReal.neg_lt_neg_iff.mp c)
    simp [h, h']

/-- Place `r` of the reference's list of point `p` holds the number of the position the stable sort by distance puts there. -/
theorem indices_apply (p : Fin 2048) (r : Fin 17) :
    val_main_indices (F := Ideal) x1 (ix3 0 p r)
      = BitVec.ofNat 32 (sortedFrom (fun i j => decide (rdist x1 p i < rdist x1 p j)) (r.castLE (by decide))).val := by
  unfold val_main_indices Host.topK
  dsimp only
  refine Eq.trans (extractStridedSlice_apply (s := S1x2048x2048) (t := S1x2048x17) (fun _ => 0) _ sliceFits_S1x2048x2048_S1x2048x17 (ix3 0 p r) (ix3 0 p (r.castLE (by decide)) : S1x2048x2048.Idx)
    (fun a => match a with
      | ⟨0, _⟩ => (Nat.zero_add _).symm
      | ⟨1, _⟩ => (Nat.zero_add _).symm
      | ⟨2, _⟩ => (Nat.zero_add _).symm)) ?_
  unfold Host.sort2
  have hd : (2 : Nat) < S1x2048x2048.rank := by decide
  simp only [dif_pos hd]
  have hb : (fun k k' : Fin 2048 =>
      FloatOps.cmpfTotal (F := Ideal) (φ := .f32) .gt
        (val_main_v8 (F := Ideal) x1 ((ix3 (0 : Fin 1) p (r.castLE (by decide)) : S1x2048x2048.Idx).along 2 k))
        (val_main_v8 (F := Ideal) x1 ((ix3 (0 : Fin 1) p (r.castLE (by decide)) : S1x2048x2048.Idx).along 2 k')) == 1#1)
      = fun i j => decide (rdist x1 p i < rdist x1 p j) := by
    funext i j
    rw [along_eq, along_eq, val_main_v8_apply, val_main_v8_apply]
    exact gt_neg (rdist x1 p i) (rdist x1 p j)
  show iotaInDim S1x2048x2048 32 ⟨2, hd⟩ ((ix3 (0 : Fin 1) p (r.castLE (by decide)) : S1x2048x2048.Idx).along 2
      (sortedFrom (n := 2048) (fun k k' => _) (r.castLE (by decide)))) = _
  rw [along_eq]
  exact congrArg (fun b => BitVec.ofNat 32 (sortedFrom (n := 2048) b (r.castLE (by decide))).val) hb

theorem toInt_small {n : Nat} (h : n < 2048) : (BitVec.ofNat 32 n).toInt = n := by
  rw [BitVec.toInt_eq_toNat_of_lt (by rw [BitVec.toNat_ofNat]; omega), BitVec.toNat_ofNat]
  omega

theorem wrap_small {n : Nat} (h : n < 2048) (a : BitVec 32) :
    Scalar.select (IntOp.cmpi .slt (BitVec.ofNat 32 n) 0#32) a (BitVec.ofNat 32 n) = BitVec.ofNat 32 n :=
  Routing.wrap_of_lt _ _ (by rw [BitVec.toNat_ofNat]; omega)

/-- The position that place `t + 1` of point `p`'s list names. -/
def nbr (p : Fin 2048) (t : Fin 16) : Fin 2048 :=
  sortedFrom (fun i j => decide (rdist x1 p i < rdist x1 p j)) ⟨t.val + 1, by omega⟩

theorem v9_apply (p : Fin 2048) (t : Fin 16) : val_main_v9 (F := Ideal) x1 (ix3 0 p t) = BitVec.ofNat 32 (nbr x1 p t).val := by
  rw [val_main_v9_apply]
  have e : idx_main_v9 (ix3 0 p t) = ix3 0 p (⟨t.val + 1, by omega⟩ : Fin 17) := by
    funext a
    match a with
    | ⟨0, _⟩ => rfl
    | ⟨1, _⟩ => rfl
    | ⟨2, _⟩ => exact Fin.ext (Nat.add_comm 1 t.val)
  rw [e, indices_apply]
  rfl

/-- Three index planes laid side by side, read plane by plane. -/
theorem planes (A B C : IVec S1x2048x16x1 32) (p : Fin 2048) (t : Fin 16) (z : Fin 3) :
    concatenate S1x2048x16x3 3 [⟨S1x2048x16x1, A⟩, ⟨S1x2048x16x1, B⟩, ⟨S1x2048x16x1, C⟩]
      concatenates_S1x2048x16x1_S1x2048x16x1_S1x2048x16x1_S1x2048x16x3_d3 (ix4 0 p t z)
      = (match z with | 0 => A | 1 => B | 2 => C) (ix4 0 p t 0) := by
  have hi : ∀ b : Fin 4, b ≠ 3 → ((ix4 0 p t 0 : S1x2048x16x1.Idx) b).val = ((ix4 0 p t z : S1x2048x16x3.Idx) b).val := fun b hb => by
    match b with
    | ⟨0, _⟩ => rfl
    | ⟨1, _⟩ => rfl
    | ⟨2, _⟩ => rfl
    | ⟨3, _⟩ => exact absurd rfl hb
  match z with
  | 0 => exact concatenate_apply_piece (t := S1x2048x16x3) 3 [⟨S1x2048x16x1, A⟩, ⟨S1x2048x16x1, B⟩, ⟨S1x2048x16x1, C⟩] _ _ 0 (Nat.succ_pos 2) S1x2048x16x1 A rfl rfl 0 rfl (ix4 0 p t 0) hi rfl
  | 1 => exact concatenate_apply_piece (t := S1x2048x16x3) 3 [⟨S1x2048x16x1, A⟩, ⟨S1x2048x16x1, B⟩, ⟨S1x2048x16x1, C⟩] _ _ 1 (by show 1 < 3; decide) S1x2048x16x1 B rfl rfl 1 rfl (ix4 0 p t 0) hi rfl
  | 2 => exact concatenate_apply_piece (t := S1x2048x16x3) 3 [⟨S1x2048x16x1, A⟩, ⟨S1x2048x16x1, B⟩, ⟨S1x2048x16x1, C⟩] _ _ 2 (by show 2 < 3; decide) S1x2048x16x1 C rfl rfl 2 rfl (ix4 0 p t 0) hi rfl

theorem v35_0 (p : Fin 2048) (t : Fin 16) : val_main_v35 (F := Ideal) x1 (ix4 0 p t 0) = 0#32 := by
  unfold val_main_v35
  refine (planes _ _ _ p t 0).trans ?_
  show val_main_v32 (F := Ideal) (ix4 0 p t 0) = _
  rw [val_main_v32_apply, val_main_v30_apply, val_main_v19_apply, val_main_v16_apply, val_main_v11_apply, val_main_v10_apply,
    val_main_v15_apply, val_main_c_0_apply]
  exact wrap_small (n := 0) (by decide) _

theorem v35_1 (p : Fin 2048) (t : Fin 16) : val_main_v35 (F := Ideal) x1 (ix4 0 p t 1) = BitVec.ofNat 32 p.val := by
  unfold val_main_v35
  refine (planes _ _ _ p t 1).trans ?_
  show val_main_v33 (F := Ideal) (ix4 0 p t 0) = _
  rw [val_main_v33_apply, val_main_v31_apply, val_main_v24_apply, val_main_v21_apply, val_main_v13_apply, val_main_v12_apply,
    val_main_v20_apply, val_main_c_2_apply]
  exact wrap_small (n := p.val) p.isLt _

theorem v35_2 (p : Fin 2048) (t : Fin 16) : val_main_v35 (F := Ideal) x1 (ix4 0 p t 2) = BitVec.ofNat 32 (nbr x1 p t).val := by
  unfold val_main_v35
  refine (planes _ _ _ p t 2).trans ?_
  show val_main_v34 (F := Ideal) x1 (ix4 0 p t 0) = _
  rw [val_main_v34_apply]
  have e : idx_main_v34 (ix4 0 p t 0) = ix3 0 p t := by
    funext a
    match a with
    | ⟨0, _⟩ => rfl
    | ⟨1, _⟩ => rfl
    | ⟨2, _⟩ => rfl
  rw [e, val_main_v29_apply, val_main_v26_apply, v9_apply, val_main_v25_apply, val_main_c_4_apply]
  exact wrap_small (nbr x1 p t).isLt _

/-- Update `(0, p, t)` lands at `(0, q, j)` exactly when its three index words say so. -/
theorem lands (idx : IVec S1x2048x16x3 32) (a : Fin 1) (p : Fin 2048) (t : Fin 16) (b : Fin 1) (q j : Fin 2048) :
    scatter_S1x2048x2048_S1x2048x16x3_S1x2048x16_n_012_012_3.resultIdx? (ix3 a p t) idx = some (ix3 b q j)
      ↔ (idx (ix4 a p t 0)).toInt = b.val ∧ (idx (ix4 a p t 1)).toInt = q.val ∧ (idx (ix4 a p t 2)).toInt = j.val := by
  have hwin : ∀ z : Fin 3, scatter_S1x2048x2048_S1x2048x16x3_S1x2048x16_n_012_012_3.window (ix3 a p t) z = 0 := fun z => by
    unfold ScatterDims.window
    rw [dif_neg (by revert z; decide)]
  have hst : ∀ z : Fin 3, scatter_S1x2048x2048_S1x2048x16x3_S1x2048x16_n_012_012_3.start (ix3 a p t) idx z = (idx (ix4 a p t z)).toInt := fun z => by
    unfold ScatterDims.start
    rw [dif_pos (by revert z; decide)]
    refine congrArg (fun i => (idx i).toInt) ?_
    funext c
    apply Fin.ext
    match z, c with
    | ⟨0, _⟩, ⟨0, _⟩ => rfl
    | ⟨0, _⟩, ⟨1, _⟩ => rfl
    | ⟨0, _⟩, ⟨2, _⟩ => rfl
    | ⟨0, _⟩, ⟨3, _⟩ => rfl
    | ⟨1, _⟩, ⟨0, _⟩ => rfl
    | ⟨1, _⟩, ⟨1, _⟩ => rfl
    | ⟨1, _⟩, ⟨2, _⟩ => rfl
    | ⟨1, _⟩, ⟨3, _⟩ => rfl
    | ⟨2, _⟩, ⟨0, _⟩ => rfl
    | ⟨2, _⟩, ⟨1, _⟩ => rfl
    | ⟨2, _⟩, ⟨2, _⟩ => rfl
    | ⟨2, _⟩, ⟨3, _⟩ => rfl
  rw [Routing.resultIdx?_eq_some]
  constructor
  · intro h
    have h0 := h 0
    have h1 := h 1
    have h2 := h 2
    rw [hst, hwin] at h0 h1 h2
    exact ⟨by simpa using h0, by simpa using h1, by simpa using h2⟩
  · rintro ⟨h0, h1, h2⟩ z
    rw [hst, hwin]
    match z with
    | ⟨0, _⟩ => simpa using h0
    | ⟨1, _⟩ => simpa using h1
    | ⟨2, _⟩ => simpa using h2

/-- `j` is one of the 16 nearest of `p` after the nearest. -/
def Nbr (p j : Fin 2048) : Prop := 1 ≤ Knn.rank (rdist x1 p) j ∧ Knn.rank (rdist x1 p) j ≤ 16

theorem exists_nbr_iff (p j : Fin 2048) : (∃ t, nbr x1 p t = j) ↔ Nbr x1 p j := by
  constructor
  · rintro ⟨t, rfl⟩
    unfold Nbr nbr
    rw [Knn.rank_sortedFrom]
    exact ⟨Nat.le_add_left 1 t.val, by show t.val + 1 ≤ 16; omega⟩
  · rintro ⟨h1, h2⟩
    refine ⟨⟨Knn.rank (rdist x1 p) j - 1, by omega⟩, Knn.rank_injective (rdist x1 p) ?_⟩
    unfold nbr
    rw [Knn.rank_sortedFrom]
    show Knn.rank (rdist x1 p) j - 1 + 1 = _
    omega

theorem v37_hit (p j : Fin 2048) (h : Nbr x1 p j) : val_main_v37 (F := Ideal) x1 (ix3 0 p j) = 1#1 := by
  obtain ⟨t, rfl⟩ := (exists_nbr_iff x1 p j).mpr h
  unfold val_main_v37
  refine Routing.scatter_set_hit _ _ _ _ _ 1#1 (fun k _ => by rw [val_main_v36_apply]; rfl) (ix3 0 p t) ?_
  rw [lands, v35_0, v35_1, v35_2, toInt_small p.isLt, toInt_small (nbr x1 p t).isLt]
  exact ⟨rfl, rfl, rfl⟩

theorem v37_miss (p j : Fin 2048) (h : ¬ Nbr x1 p j) : val_main_v37 (F := Ideal) x1 (ix3 0 p j) = 0#1 := by
  unfold val_main_v37
  refine (Routing.scatter_set_miss _ _ _ _ _ (fun k hk => h ?_)).trans (val_main_v14_apply _)
  obtain ⟨a, q, t, rfl⟩ : ∃ (a : Fin 1) (q : Fin 2048) (t : Fin 16), k = ix3 a q t := ⟨_, _, _, eq_ix3 _⟩
  rw [lands] at hk
  obtain rfl : a = 0 := Subsingleton.elim _ _
  rw [v35_1, v35_2, toInt_small q.isLt, toInt_small (nbr x1 q t).isLt] at hk
  obtain rfl : q = p := Fin.ext (by have := hk.2.1; omega)
  exact (exists_nbr_iff x1 q j).mp ⟨t, Fin.ext (by have := hk.2.2; omega)⟩

end Cert.ReferenceIdeal.Mask
-- ==== Proof.RefValue.lean ====
/- What the reference computes: the masked softmax attention of the projections, and the mean of the keys over the heads. -/
module

public import proofs.«01_k».proof.Proof.RefMask
public import proofs.«01_k».proof.Proof.Spec
public import Idealize.ShloMosaic.Lib.KernelVsHost
public import Idealize.ShloMosaic.PureOps.Ideal.Laws

@[expose] public section

set_option maxRecDepth 16384

noncomputable section

namespace Cert.ReferenceIdeal.Mask

open Cert.ReferenceIdeal Cert.ReferenceIdeal.Gen Cert.ReferenceIdeal.Read Idealize.ShloMosaic Idealize.ShloMosaic.ValueIdx Cert.Spec

variable (x0 : (⟨S1x2048x1024, .f32⟩ : BufTy).Contents (Elt Ideal)) (x1 : (⟨S1x2048x3, .f32⟩ : BufTy).Contents (Elt Ideal))
  (x2 x3 x4 : (⟨S1024x1024, .f32⟩ : BufTy).Contents (Elt Ideal))

/-- The rows of the activations. -/
def rowsOf (p : Fin 2048) (k : Fin 1024) : EReal := x0 (ix3 0 p k)

/-- The rows of a weight matrix. -/
def matOf (c k : Fin 1024) : EReal := x2 (ix2 c k)

theorem ofBits_one : Ideal.ofBits .f32 0x3F800000#32 = ((1 : ℝ) : EReal) := by
  simp [Ideal.ofBits, Ideal.ieee, -EReal.coe_mul]; norm_num

theorem ofBits_sixtyfour : Ideal.ofBits .f32 0x42800000#32 = ((64 : ℝ) : EReal) := by
  simp [Ideal.ofBits, Ideal.ieee, -EReal.coe_mul]; norm_num

theorem ofBits_sixteen : Ideal.ofBits .f32 0x41800000#32 = ((16 : ℝ) : EReal) := by
  simp [Ideal.ofBits, Ideal.ieee, -EReal.coe_mul]; norm_num

theorem ofBits_zero : Ideal.ofBits .f32 0x00000000#32 = 0 := by
  simp [Ideal.ofBits, Ideal.ieee, -EReal.coe_mul]

theorem ofBits_ninf : Ideal.ofBits .f32 0xFF800000#32 = ⊥ := by
  simp [Ideal.ofBits, Ideal.ieee, -EReal.coe_mul]

theorem sqrt_sixtyfour : Real.sqrt 64 = 8 := by
  rw [show (64 : ℝ) = 8 ^ 2 by norm_num]; exact Real.sqrt_sq (by norm_num)

theorem v51_eq (i : S_.Idx) : val_main_v51 (F := Ideal) i = ((1 / 8 : ℝ) : EReal) := by
  rw [val_main_v51_apply, val_main_v50_apply, val_main_cst_8_apply, val_main_cst_7_apply]
  show Ideal.div (Ideal.ofBits .f32 0x3F800000#32) (Ideal.sqrt (Ideal.ofBits .f32 0x42800000#32)) = _
  rw [ofBits_one, ofBits_sixtyfour, Ideal.sqrt_coe, if_neg (by norm_num), sqrt_sixtyfour, Ideal.div_coe (by norm_num), ← EReal.coe_mul, one_mul]

theorem v39_eq (p : Fin 2048) (c : Fin 1024) :
    val_main_v39 (F := Ideal) x0 x2 (ix3 0 p c) = proj (rowsOf x0) (matOf x2) p c := by
  rw [val_main_v39_apply]
  refine Finset.sum_congr rfl fun k _ => ?_
  rw [val_main_v38_apply]
  have e1 : lidx_main_v39 (ix3 0 p c) k = ix3 0 p k := by
    funext a; match a with
    | ⟨0, _⟩ => rfl
    | ⟨1, _⟩ => rfl
    | ⟨2, _⟩ => rfl
  have e2 : idx_main_v38 (ridx_main_v39 (ix3 0 p c) k) = ix2 c k := by
    funext a; match a with
    | ⟨0, _⟩ => rfl
    | ⟨1, _⟩ => rfl
  rw [e1, e2]
  rfl

theorem v41_eq (h : Fin 16) (p : Fin 2048) (e : Fin 64) :
    val_main_v41 (F := Ideal) x0 x2 (ix4 0 h p e) = proj (rowsOf x0) (matOf x2) p (col h e) := by
  rw [val_main_v41_apply, val_main_v40_apply, ← v39_eq]
  congr 1
  funext a
  match a with
  | ⟨0, _⟩ => rfl
  | ⟨1, _⟩ => exact Fin.ext (by show (((0 * 2048 + p.val) * 16 + h.val) * 64 + e.val) / 1024 % 2048 = p.val; omega)
  | ⟨2, _⟩ => exact Fin.ext (by show (((0 * 2048 + p.val) * 16 + h.val) * 64 + e.val) % 1024 = h.val * 64 + e.val; omega)

theorem v45_eq (h : Fin 16) (p : Fin 2048) (e : Fin 64) :
    val_main_v45 (F := Ideal) x0 x3 (ix4 0 h p e) = proj (rowsOf x0) (matOf x3) p (col h e) := v41_eq x0 x3 h p e

theorem v49_eq (h : Fin 16) (p : Fin 2048) (e : Fin 64) :
    val_main_v49 (F := Ideal) x0 x4 (ix4 0 h p e) = proj (rowsOf x0) (matOf x4) p (col h e) := v41_eq x0 x4 h p e

theorem v52_eq (h : Fin 16) (p j : Fin 2048) :
    val_main_v52 (F := Ideal) x0 x2 x3 (ix4 0 h p j)
      = ∑ e : Fin 64, proj (rowsOf x0) (matOf x2) p (col h e) * proj (rowsOf x0) (matOf x3) j (col h e) := by
  rw [val_main_v52_apply]
  refine Finset.sum_congr rfl fun e _ => ?_
  have e1 : lidx_main_v52 (ix4 0 h p j) e = ix4 0 h p e := by
    funext a; match a with
    | ⟨0, _⟩ => rfl
    | ⟨1, _⟩ => rfl
    | ⟨2, _⟩ => rfl
    | ⟨3, _⟩ => rfl
  have e2 : ridx_main_v52 (ix4 0 h p j) e = ix4 0 h j e := by
    funext a; match a with
    | ⟨0, _⟩ => rfl
    | ⟨1, _⟩ => rfl
    | ⟨2, _⟩ => rfl
    | ⟨3, _⟩ => rfl
  rw [e1, e2, v41_eq, v45_eq]

/-- The scaled score of query `p` and key `j` in head `h`, as a real number. -/
def score (qr kr : Fin 2048 → Fin 1024 → ℝ) (h : Fin 16) (p j : Fin 2048) : ℝ :=
  (∑ e : Fin 64, qr p (col h e) * kr j (col h e)) * (1 / 8)

section Attention

variable (qr kr : Fin 2048 → Fin 1024 → ℝ) (hq : ∀ p c, proj (rowsOf x0) (matOf x2) p c = (qr p c : EReal))
  (hk : ∀ p c, proj (rowsOf x0) (matOf x3) p c = (kr p c : EReal))

include hq hk in
theorem v54_eq (h : Fin 16) (p j : Fin 2048) :
    val_main_v54 (F := Ideal) x0 x2 x3 (ix4 0 h p j) = (score qr kr h p j : EReal) := by
  rw [val_main_v54_apply, val_main_v53_apply, v51_eq, v52_eq]
  show (_ : EReal) * _ = _
  simp only [hq, hk, ← EReal.coe_mul]
  rw [sum_coe, ← EReal.coe_mul]
  rfl

theorem call0_v0_eq (h : Fin 16) (p j : Fin 2048) :
    val_main_call0_v0 (F := Ideal) x1 (ix4 0 h p j) = val_main_v37 (F := Ideal) x1 (ix3 0 p j) := by
  rw [val_main_call0_v0_apply, val_main_v55_apply]
  congr 1
  funext a
  match a with
  | ⟨0, _⟩ => rfl
  | ⟨1, _⟩ => rfl
  | ⟨2, _⟩ => rfl

include hq hk in
theorem v56_pos (h : Fin 16) (p j : Fin 2048) (hn : Nbr x1 p j) :
    val_main_v56 (F := Ideal) x0 x1 x2 x3 (ix4 0 h p j) = (score qr kr h p j : EReal) := by
  rw [val_main_v56_apply, call0_v0_eq, v37_hit x1 p j hn, v54_eq x0 x2 x3 qr kr hq hk]
  rfl

theorem v56_neg (h : Fin 16) (p j : Fin 2048) (hn : ¬ Nbr x1 p j) :
    val_main_v56 (F := Ideal) x0 x1 x2 x3 (ix4 0 h p j) = ⊥ := by
  rw [val_main_v56_apply, call0_v0_eq, v37_miss x1 p j hn, val_main_call0_v1_apply, val_main_cst_9_apply]
  exact ofBits_ninf

theorem exists_neighbour (p : Fin 2048) : ∃ j, Nbr x1 p j := by
  obtain ⟨j, hj⟩ := Knn.exists_rank (rdist x1 p) (r := 1) (by decide)
  exact ⟨j, by unfold Nbr; rw [hj]; exact ⟨le_refl 1, by decide⟩⟩

/-- The largest entry of each row of a rank-4 array. -/
theorem row_max (y : FVec Ideal S1x16x2048x2048 .f32) (h : Fin 16) (p : Fin 2048) :
    Host.reduce FloatOps.maximumf y (constant S_ .f32 0xFF800000#32) reducesTo_S1x16x2048x2048_S1x16x2048_d3 h_S_ (ix3 0 h p)
      = (Finset.univ : Finset (Fin 2048)).fold max ⊥ fun j => y (ix4 0 h p j) := by
  have hr : S1x16x2048x2048.Reduces [3] S1x16x2048 := by decide
  refine (congrFun (hostReduce_maximumf_eq_multiReduction (F := Ideal) (φ := .f32) y 0xFF800000#32 reducesTo_S1x16x2048x2048_S1x16x2048_d3 h_S_
    hr (.inl rfl) rfl) (ix3 0 h p)).trans ?_
  refine (Ideal.multiReduction_maximumf_single y _ hr _ _ _).trans ?_
  rw [show (FloatOps.ofBits .f32 0xFF800000#32 : Ideal .f32) = (⊥ : EReal) from ofBits_ninf]
  have e : (y ∘ hr.lift (ix3 0 h p)) = fun j => y (ix4 0 h p j) := by
    funext j
    refine congrArg y ?_
    funext a
    match a with
    | ⟨0, _⟩ => rfl
    | ⟨1, _⟩ => rfl
    | ⟨2, _⟩ => rfl
    | ⟨3, _⟩ => rfl
  exact congrArg (fun f => (Finset.univ : Finset (Fin 2048)).fold max (⊥ : EReal) f) e

theorem v57_fold (h : Fin 16) (p : Fin 2048) :
    val_main_v57 (F := Ideal) x0 x1 x2 x3 (ix3 0 h p)
      = (Finset.univ : Finset (Fin 2048)).fold max ⊥ fun j => val_main_v56 (F := Ideal) x0 x1 x2 x3 (ix4 0 h p j) :=
  row_max (val_main_v56 (F := Ideal) x0 x1 x2 x3) h p

include hq hk in
theorem v59_real (h : Fin 16) (p : Fin 2048) : Spec.Real (val_main_v59 (F := Ideal) x0 x1 x2 x3 (ix3 0 h p)) := by
  rw [val_main_v59_apply, val_main_v58_apply, val_main_cst_11_apply, v57_fold]
  have hm := fold_max_real (Nbr x1 p) (fun j => val_main_v56 (F := Ideal) x0 x1 x2 x3 (ix4 0 h p j))
    (fun j hj => ⟨_, v56_pos x0 x1 x2 x3 qr kr hq hk h p j hj⟩) (fun j hj => v56_neg x0 x1 x2 x3 h p j hj) (exists_neighbour x1 p)
  show Spec.Real (max (Ideal.ofBits .f32 0xFF800000#32) _)
  rw [ofBits_ninf, max_eq_right bot_le]
  exact hm

theorem v61_eq (h : Fin 16) (p j : Fin 2048) :
    val_main_v61 (F := Ideal) x0 x1 x2 x3 (ix4 0 h p j) = val_main_v59 (F := Ideal) x0 x1 x2 x3 (ix3 0 h p) := by
  rw [val_main_v61_apply, val_main_v60_apply]
  congr 1
  funext a
  match a with
  | ⟨0, _⟩ => rfl
  | ⟨1, _⟩ => rfl
  | ⟨2, _⟩ => rfl

include hq hk in
theorem v63_eq (h : Fin 16) (p : Fin 2048) (m : ℝ) (hm : val_main_v59 (F := Ideal) x0 x1 x2 x3 (ix3 0 h p) = (m : EReal)) (j : Fin 2048) :
    val_main_v63 (F := Ideal) x0 x1 x2 x3 (ix4 0 h p j) = (wt (Nbr x1 p) (score qr kr h p) m j : EReal) := by
  rw [val_main_v63_apply, val_main_v62_apply, v61_eq, hm]
  rw [Ideal.hostUnary_exp_def, Ideal.subf_def]
  unfold wt
  by_cases hn : Nbr x1 p j
  · rw [v56_pos x0 x1 x2 x3 qr kr hq hk h p j hn, if_pos hn, ← EReal.coe_sub]
    rfl
  · rw [v56_neg x0 x1 x2 x3 h p j hn, if_neg hn, EReal.bot_sub]
    rfl

include hq hk in
theorem v66_eq (h : Fin 16) (p : Fin 2048) (m : ℝ) (hm : val_main_v59 (F := Ideal) x0 x1 x2 x3 (ix3 0 h p) = (m : EReal)) (j : Fin 2048) :
    val_main_v66 (F := Ideal) x0 x1 x2 x3 (ix4 0 h p j) = ∑ i, (wt (Nbr x1 p) (score qr kr h p) m i : EReal) := by
  rw [val_main_v66_apply, val_main_v65_apply]
  have e : idx_main_v65 (idx_main_v66 (ix4 0 h p j)) = ix3 0 h p := by
    funext a
    match a with
    | ⟨0, _⟩ => rfl
    | ⟨1, _⟩ => rfl
    | ⟨2, _⟩ => rfl
  rw [e, val_main_v64_apply, val_main_cst_12_apply]
  show Ideal.ofBits .f32 0x00000000#32 + _ = _
  rw [ofBits_zero, zero_add]
  refine Finset.sum_congr rfl fun i _ => ?_
  rw [← v63_eq x0 x1 x2 x3 qr kr hq hk h p m hm i]
  refine congrArg (val_main_v63 (F := Ideal) x0 x1 x2 x3) ?_
  funext a
  match a with
  | ⟨0, _⟩ => rfl
  | ⟨1, _⟩ => rfl
  | ⟨2, _⟩ => rfl
  | ⟨3, _⟩ => rfl

include hq hk in
/-- The reference's first result, entry by entry: a mean of the values of the neighbours, weighted by the exponentials of the scores. -/
theorem v70_eq (p : Fin 2048) (h : Fin 16) (e : Fin 64) :
    val_main_v70 (F := Ideal) x0 x1 x2 x3 x4 (ix3 0 p (col h e))
      = Ideal.div (∑ j, (wt (Nbr x1 p) (score qr kr h p) 0 j : EReal) * proj (rowsOf x0) (matOf x4) j (col h e))
          (∑ j, (wt (Nbr x1 p) (score qr kr h p) 0 j : EReal)) := by
  obtain ⟨m, hm⟩ := v59_real x0 x1 x2 x3 qr kr hq hk h p
  rw [softmax_eq (Nbr x1 p) (score qr kr h p) _ (exists_neighbour x1 p) m, val_main_v70_apply, val_main_v69_apply]
  have e0 : idx_main_v69 (idx_main_v70 (ix3 0 p (col h e))) = ix4 0 h p e := by
    funext a
    match a with
    | ⟨0, _⟩ => rfl
    | ⟨1, _⟩ => exact Fin.ext (by show ((0 * 2048 + p.val) * 1024 + (h.val * 64 + e.val)) / 64 % 16 = h.val; omega)
    | ⟨2, _⟩ => exact Fin.ext (by show ((0 * 2048 + p.val) * 1024 + (h.val * 64 + e.val)) / 1024 % 2048 = p.val; omega)
    | ⟨3, _⟩ => exact Fin.ext (by show ((0 * 2048 + p.val) * 1024 + (h.val * 64 + e.val)) % 64 = e.val; omega)
  rw [e0, val_main_v68_apply]
  refine Finset.sum_congr rfl fun j _ => ?_
  have e1 : lidx_main_v68 (ix4 0 h p e) j = ix4 0 h p j := by
    funext a; match a with
    | ⟨0, _⟩ => rfl
    | ⟨1, _⟩ => rfl
    | ⟨2, _⟩ => rfl
    | ⟨3, _⟩ => rfl
  have e2 : ridx_main_v68 (ix4 0 h p e) j = ix4 0 h j e := by
    funext a; match a with
    | ⟨0, _⟩ => rfl
    | ⟨1, _⟩ => rfl
    | ⟨2, _⟩ => rfl
    | ⟨3, _⟩ => rfl
  rw [e1, e2, v49_eq, val_main_v67_apply, v63_eq x0 x1 x2 x3 qr kr hq hk h p m hm, v66_eq x0 x1 x2 x3 qr kr hq hk h p m hm]
  rfl

end Attention

/-- The reference's second result, entry by entry: the mean of the keys over the heads. -/
theorem v73_eq (p : Fin 2048) (e : Fin 64) :
    val_main_v73 (F := Ideal) x0 x3 (ix3 0 p e) = (∑ h : Fin 16, proj (rowsOf x0) (matOf x3) p (col h e)) * ((1 / 16 : ℝ) : EReal) := by
  rw [val_main_v73_apply, val_main_v72_apply, val_main_cst_14_apply, val_main_v71_apply, val_main_cst_13_apply]
  show Ideal.div (Ideal.ofBits .f32 0x00000000#32 + _) (Ideal.ofBits .f32 0x41800000#32) = _
  rw [ofBits_sixteen, ofBits_zero, zero_add, Ideal.div_coe (by norm_num)]
  congr 1
  refine Finset.sum_congr rfl fun h _ => ?_
  rw [← v45_eq]
  congr 1
  funext a
  match a with
  | ⟨0, _⟩ => rfl
  | ⟨1, _⟩ => rfl
  | ⟨2, _⟩ => rfl
  | ⟨3, _⟩ => rfl

end Cert.ReferenceIdeal.Mask
-- ==== Proof.Agree.lean ====
/- The idealized kernel's results are the reference's, on arguments of real numbers. -/
module

public import proofs.«01_k».proof.Proof.KernelHost
public import proofs.«01_k».proof.Proof.RefValue

@[expose] public section

set_option maxRecDepth 16384

noncomputable section

namespace Cert.Agree

open Idealize.ShloMosaic hiding ix1 ix2 ix3
open Idealize.ShloMosaic.ValueIdx Idealize.ShloMosaic.TcCoe
open Cert.KernelIdeal.Body Cert.Spec
open Cert.ReferenceIdeal.Mask (rdist Nbr rowsOf matOf score)
open Cert.ReferenceIdeal.Read

/-! ## The reference's distances -/

theorem apart (x1 : (⟨Cert.ReferenceIdeal.S1x2048x3, .f32⟩ : BufTy).Contents (Elt Ideal)) (p j : Fin 2048) (a : Fin 3) :
    (val_main_v5 (F := Ideal) x1 (idx_main_v6 (ix3 0 p j) a) : EReal) = gap x1 p j a := by
  rw [val_main_v5_apply, val_main_v4_apply, val_main_v2_apply, val_main_v3_apply, val_main_v0_apply, val_main_v1_apply]
  have e1 : idx_main_v0 (idx_main_v2 (idx_main_v6 (ix3 0 p j) a)) = ix3 0 p a := by
    funext b; match b with | ⟨0, _⟩ => rfl | ⟨1, _⟩ => rfl | ⟨2, _⟩ => rfl
  have e2 : idx_main_v1 (idx_main_v3 (idx_main_v6 (ix3 0 p j) a)) = ix3 0 j a := by
    funext b; match b with | ⟨0, _⟩ => rfl | ⟨1, _⟩ => rfl | ⟨2, _⟩ => rfl
  rw [e1, e2]
  rfl

theorem rdist_gap (x1 : (⟨Cert.ReferenceIdeal.S1x2048x3, .f32⟩ : BufTy).Contents (Elt Ideal)) (p j : Fin 2048) :
    rdist x1 p j = Ideal.sqrt (gap x1 p j 0 + gap x1 p j 1 + gap x1 p j 2) := by
  unfold rdist
  rw [val_main_v7_apply, val_main_v6_apply]
  have e0 : (val_main_cst (F := Ideal) (Shape.Idx.first Cert.ReferenceIdeal.Gen.h_S_) : EReal) = 0 := by
    rw [val_main_cst_apply]
    show Ideal.ofBits .f32 0x00000000#32 = 0
    simp [Ideal.ofBits, Ideal.ieee, -EReal.coe_mul]
  have e : (∑ k : Fin 3, (val_main_v5 (F := Ideal) x1 (idx_main_v6 (ix3 0 p j) k) : EReal)) = gap x1 p j 0 + gap x1 p j 1 + gap x1 p j 2 := by
    rw [Fin.sum_univ_three, apart, apart, apart]
  exact congrArg Ideal.sqrt ((congrArg₂ (fun a b : EReal => a + b) e0 e).trans (zero_add _))

/-- Real coordinates have real distances. -/
theorem far_ne_top {C : Cert.KernelIdeal.S1x2048x3.Idx → EReal} (hC : ∀ i, Spec.Real (C i)) (p j : Fin 2048) :
    Ideal.sqrt (gap C p j 0 + gap C p j 1 + gap C p j 2) ≠ ⊤ := by
  have g (a : Fin 3) : Spec.Real (gap C p j a) := ((hC _).sub (hC _)).mul ((hC _).sub (hC _))
  obtain ⟨r, hr⟩ := ((g 0).add (g 1)).add (g 2)
  rw [hr, Ideal.sqrt_coe]
  split
  · exact bot_ne_top
  · exact EReal.coe_ne_top _

section
variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD)

/-- The two programs measure the same distances. -/
theorem far_rdist (p : Fin 2048) : far (V1 m ρ c Cert.KernelIdeal.main_call0_v2) (V1 m ρ c Cert.KernelIdeal.main_call0_v3) p = rdist (argC m c) p :=
  funext fun j => (far_gap m ρ c p j).trans (rdist_gap (argC m c) p j).symm

/-- A row's weight for another: its exponential if it is a neighbour, else nothing. -/
theorem weight_wt {qr kr : Fin 2048 → Fin 1024 → ℝ}
    (hq : ∀ p i, proj (rowsOf (argX m c)) (matOf (argQ m c)) p i = (qr p i : EReal))
    (hk : ∀ p i, proj (rowsOf (argX m c)) (matOf (argK m c)) p i = (kr p i : EReal)) (p : Fin 2048) (h : Fin 16) (j : Fin 2048) :
    weightAll (qAll (V1 m ρ c Cert.KernelIdeal.main_call0_v1) (V1 m ρ c Cert.KernelIdeal.main_call0_v8))
      (kAll (V1 m ρ c Cert.KernelIdeal.main_call0_v1) (V1 m ρ c Cert.KernelIdeal.main_call0_v8))
      (biasAll (V1 m ρ c Cert.KernelIdeal.main_call0_v2) (V1 m ρ c Cert.KernelIdeal.main_call0_v3)) p h j
      = (wt (Nbr (argC m c) p) (score qr kr h p) 0 j : EReal) := by
  have eq (i : Fin 1024) : qAll (V1 m ρ c Cert.KernelIdeal.main_call0_v1) (V1 m ρ c Cert.KernelIdeal.main_call0_v8) (ix2 p i)
      = ((qr p i * (1 / 8) : ℝ) : EReal) := by
    rw [EReal.coe_mul, ← hq]
    exact congrArg (fun a : EReal => a * ((1 / 8 : ℝ) : EReal)) (wide_q m ρ c p i)
  have ek (i : Fin 1024) : kAll (V1 m ρ c Cert.KernelIdeal.main_call0_v1) (V1 m ρ c Cert.KernelIdeal.main_call0_v8) (ix2 j i) = (kr j i : EReal) := by
    rw [← hk]
    exact wide_k m ρ c j i
  unfold weightAll
  have es : (∑ a : Fin 64, qAll (V1 m ρ c Cert.KernelIdeal.main_call0_v1) (V1 m ρ c Cert.KernelIdeal.main_call0_v8) (ix2 p (col h a))
      * kAll (V1 m ρ c Cert.KernelIdeal.main_call0_v1) (V1 m ρ c Cert.KernelIdeal.main_call0_v8) (ix2 j (col h a))) = ((score qr kr h p j : ℝ) : EReal) := by
    rw [score, Finset.sum_mul, ← sum_coe]
    refine Finset.sum_congr rfl fun a _ => ?_
    rw [eq, ek, ← EReal.coe_mul]
    congr 1
    ring
  rw [es]
  by_cases hn : Nbr (argC m c) p j
  · have hn' := hn
    unfold Nbr at hn'
    rw [← far_rdist m ρ c p] at hn'
    rw [biasAll_in hn', add_zero, Ideal.exp_coe, wt, if_pos hn, sub_zero]
  · have hn' := hn
    unfold Nbr at hn'
    rw [← far_rdist m ρ c p] at hn'
    rw [biasAll_out hn', EReal.add_bot, wt, if_neg hn]
    exact Ideal.exp_bot

variable (hx : ∀ i, Spec.Real (argX m c i)) (hC : ∀ i, Spec.Real (argC m c i)) (hQ : ∀ i, Spec.Real (argQ m c i)) (hK : ∀ i, Spec.Real (argK m c i))

include hx hC hQ hK in
theorem out_eq : W4 m ρ c (Proc.devRef .tc Cert.KernelIdeal.main_v0_0) = val_main_v70 (F := Ideal) (argX m c) (argC m c) (argQ m c) (argK m c) (argV m c) := by
  have hq := fun p i => proj_real (x := rowsOf (argX m c)) (w := matOf (argQ m c)) (fun p k => hx _) (fun a k => hQ _) p i
  have hk := fun p i => proj_real (x := rowsOf (argX m c)) (w := matOf (argK m c)) (fun p k => hx _) (fun a k => hK _) p i
  choose qr hqr using hq
  choose kr hkr using hk
  have key (p : Fin 2048) (h : Fin 16) (e : Fin 64) : (W4 m ρ c (Proc.devRef .tc Cert.KernelIdeal.main_v0_0) (ix3 0 p (col h e)) : EReal)
      = val_main_v70 (F := Ideal) (argX m c) (argC m c) (argQ m c) (argK m c) (argV m c) (ix3 0 p (col h e)) := by
    refine (result_out m ρ c (fun r j => ?_) p h e).trans ?_
    · rw [far_gap]; exact far_ne_top hC r j
    · refine Eq.trans ?_ (Cert.ReferenceIdeal.Mask.v70_eq (argX m c) (argC m c) (argQ m c) (argK m c) (argV m c) qr kr hqr hkr p h e).symm
      unfold meanAll
      simp only [weight_wt m ρ c hqr hkr]
      refine congrArg (fun a : EReal => Ideal.div a _) (Finset.sum_congr rfl fun j _ => congrArg (fun a : EReal => _ * a) ?_)
      exact wide_v m ρ c j (col h e)
  funext i
  obtain ⟨p, k, rfl⟩ : ∃ (p : Fin 2048) (k : Fin 1024), i = ix3 0 p k :=
    ⟨i 1, i 2, by funext a; match a with | ⟨0, _⟩ => exact Fin.ext (by have h : (i 0).val < 1 := (i 0).isLt; show (i 0).val = 0; omega) | ⟨1, _⟩ => rfl | ⟨2, _⟩ => rfl⟩
  obtain ⟨h, e, rfl⟩ := exists_col k
  exact key p h e

theorem metric_eq : W4 m ρ c (Proc.devRef .tc Cert.KernelIdeal.main_v0_1) = val_main_v73 (F := Ideal) (argX m c) (argK m c) := by
  funext i
  obtain ⟨p, e, rfl⟩ : ∃ (p : Fin 2048) (e : Fin 64), i = ix3 0 p e :=
    ⟨i 1, i 2, by funext a; match a with | ⟨0, _⟩ => exact Fin.ext (by have h : (i 0).val < 1 := (i 0).isLt; show (i 0).val = 0; omega) | ⟨1, _⟩ => rfl | ⟨2, _⟩ => rfl⟩
  exact (result_metric m ρ c p e).trans (Cert.ReferenceIdeal.Mask.v73_eq (argX m c) (argK m c) p e).symm

end

end Cert.Agree
-- ==== Proof.Finite.lean ====
/- What the precondition says, entry by entry: the arrays it tests hold real numbers only. -/
module

public import proofs.«01_k».proof.Pre_finite_inputs
public import proofs.«01_k».proof.Proof.Spec
public import Idealize.ShloMosaic.PureOps.Ideal.Laws
public import Idealize.ShloMosaic.Lib.WordCmp

@[expose] public section

noncomputable section

namespace Cert.Pre_finite_inputs

open Idealize.ShloMosaic

theorem and_true : ∀ x y : BitVec 1, IntOp.andi x y = 1#1 → x = 1#1 ∧ y = 1#1 := by decide

/-- A chain of conjunctions is true only if everything chained is. -/
theorem chain_true {α : Type} (f : α → BitVec 1) : ∀ (l : List α) (z : BitVec 1), l.foldl (fun r n => IntOp.andi r (f n)) z = 1#1 →
    z = 1#1 ∧ ∀ n ∈ l, f n = 1#1
  | [], z, h => ⟨h, fun _ hn => absurd hn (List.not_mem_nil)⟩
  | a :: l, z, h => by
    obtain ⟨h1, h2⟩ := chain_true f l (IntOp.andi z (f a)) h
    have h3 := and_true z (f a) h1
    refine ⟨h3.1, fun n hn => ?_⟩
    rcases List.mem_cons.mp hn with e | e
    · rw [e]; exact h3.2
    · exact h2 n e

theorem both_true {x y : IVec S_ 1} (h : andi x y = fun _ => 1#1) : (x = fun _ => 1#1) ∧ (y = fun _ => 1#1) := by
  have e (i : S_.Idx) : x i = 1#1 ∧ y i = 1#1 := and_true (x i) (y i) (congrFun h i)
  exact ⟨funext fun i => (e i).1, funext fun i => (e i).2⟩

theorem inf_bits : (FloatOps.ofBits (F := Ideal) .f32 0x7F800000#32 : EReal) = ⊤ := by
  show Ideal.ofBits .f32 0x7F800000#32 = ⊤
  simp [Ideal.ofBits, Ideal.ieee, -EReal.coe_mul]

/-- A value whose size is below infinity is a real number. -/
theorem real_of_abs {a : EReal} (h : Ideal.cmp .olt (max a (-a)) ⊤ = 1#1) : Spec.Real a := by
  have h' : max a (-a) < ⊤ := by
    by_contra hn
    have : Ideal.cmp .olt (max a (-a)) ⊤ = 0#1 := by
      show BitVec.ofBool (decide (max a (-a) < ⊤)) = 0#1
      rw [decide_eq_false hn]; rfl
    rw [this] at h
    exact absurd h (by decide)
  refine Spec.real_of_ne (fun e => ?_) (fun e => ?_)
  · rw [e] at h'; exact absurd h' (by simp)
  · rw [e] at h'; exact absurd h' (by simp)

/-- The test of one array. -/
theorem array_real {s : Shape} {axes : List (Fin s.rank)} (a : FVec Ideal s .f32) (hb : S_.BroadcastsInDim s (![] : Fin 0 → Fin s.rank))
    (hr : s.ReducesTo axes S_) (hu : 0 < S_.numel)
    (h : Host.reduce IntOp.andi (cmpf .olt (Host.absf a) (broadcastInDim s ![] hb (constant (F := Ideal) S_ .f32 0x7F800000#32))) (constantI S_ 1 1#1) hr hu
      = fun _ => 1#1) (i : s.Idx) : Spec.Real (a i) := by
  have h0 := congrFun h (fun b => b.elim0)
  rw [Host.reduce_eq_foldl] at h0
  have h1 := (chain_true _ _ _ h0).2 i (by
    refine List.mem_filter.mpr ⟨List.mem_map.mpr ⟨s.rowMajor i, List.mem_finRange _, s.rowMajor.symm_apply_apply i⟩, ?_⟩
    exact decide_eq_true (funext fun b => b.elim0))
  refine real_of_abs ?_
  rw [← inf_bits]
  exact h1

variable [Facts]
open Facts

/-- The precondition makes every entry of the four arrays it tests a real number. -/
theorem all_real (x : FVec Ideal S1x2048x1024 .f32) (k : FVec Ideal S1x2048x3 .f32) (q w v : FVec Ideal S1024x1024 .f32)
    (h : fn (F := Ideal) x k q w v = fun _ => 1#1) :
    (∀ i, Spec.Real (x i)) ∧ (∀ i, Spec.Real (k i)) ∧ (∀ i, Spec.Real (q i)) ∧ (∀ i, Spec.Real (w i)) := by
  unfold fn fn_part1 at h
  obtain ⟨h, hw⟩ := both_true h
  obtain ⟨h, hq⟩ := both_true h
  obtain ⟨hx, hk⟩ := both_true h
  exact ⟨array_real x _ _ _ hx, array_real k _ _ _ hk, array_real q _ _ _ hq, array_real w _ _ _ hw⟩

end Cert.Pre_finite_inputs
-- ==== Proof.lean ====
/- The claims' proof: the frames of the three programs, the named constant, and the equality with the reference. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_inputs
public import proofs.«01_k».proof.Proof.KernelRun
public import proofs.«01_k».proof.Proof.KernelIdealRun
public import proofs.«01_k».proof.Proof.Agree
public import proofs.«01_k».proof.Proof.Finite
public import Idealize.ShloMosaic.Adequacy
public import Idealize.ShloMosaic.Init

@[expose] public section

noncomputable section

namespace Cert.Proof

open Idealize.ShloMosaic Idealize.SL.Sem

/-- The reference has no semaphore. -/
theorem reference_noSem (g : GSem Cert.ReferenceIdeal.nD Cert.ReferenceIdeal.τ Cert.ReferenceIdeal.sig) : False := by
  obtain ⟨t, s⟩ := g
  revert s
  cases t.2 <;> decide

theorem reference_frame : Cert.quiescent_ReferenceIdeal (hReferenceIdeal := Cert.ReferenceIdeal.Gen.facts) := fun m ρ _ =>
  (θ_run Cert.ReferenceIdeal.defs _ _).mono (fun _ h => ⟨fun c => (h c).2.2, funext fun g => (reference_noSem g).elim⟩)
    (Cert.ReferenceIdeal.Value.run (F := Ideal) m ρ)

/-- The idealized kernel and the reference end with the same results, on real arguments. -/
theorem same_results : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.Gen.facts) := by
  intro m g m' g' hpre hargs
  refine ⟨fun c => Cert.KernelIdeal.Body.W4 m g c (Proc.devRef .tc Cert.KernelIdeal.main_v0_0),
    fun c => Cert.KernelIdeal.Body.W4 m g c (Proc.devRef .tc Cert.KernelIdeal.main_v0_1), Cert.KernelIdeal.Body.results m g, ?_⟩
  refine (θ_run Cert.ReferenceIdeal.defs _ _).mono (fun r h c => ?_) (Cert.ReferenceIdeal.Value.run (F := Ideal) m' g')
  obtain ⟨h70, h73, hrest⟩ := h c
  obtain ⟨e0, e1, e2, e3, e4⟩ := hargs c
  obtain ⟨hx, hC, hQ, hK⟩ := Cert.Pre_finite_inputs.all_real _ _ _ _ _ (hpre c)
  refine ⟨h70.trans ?_, h73.trans ?_, hrest⟩
  · refine (Cert.ReferenceIdeal.Read.val_main_v70_eq m' c).trans ?_
    rw [e0, e1, e2, e3, e4]
    exact (Cert.Agree.out_eq m g c hx hC hQ hK).symm
  · refine (Cert.ReferenceIdeal.Read.val_main_v73_eq _ _).trans ?_
    rw [e0, e3]
    exact (Cert.Agree.metric_eq m g c).symm

theorem claim : Cert.Claim :=
  ⟨Cert.Kernel.Gen.facts, Cert.KernelIdeal.Gen.facts, Cert.ReferenceIdeal.Gen.facts, Cert.Pre_finite_inputs.Gen.facts,
    fun m ρ _ => Cert.Kernel.Body.frame m ρ,
    fun m ρ _ => Cert.KernelIdeal.Body.frame m ρ,
    fun m ρ _ => Cert.KernelIdeal.Body.frame m ρ,
    reference_frame,
    fun m ρ _ => reference_frame m ρ trivial,
    IdealRules.named_const.statement Cert.KernelIdeal.κ "mask" .f32 0xCE6E6B28#32 ⊥ rfl,
    same_results⟩

end Cert.Proof

end
